-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S2x256x64 : Shape := ⟨3, ![2, 256, 64]⟩
abbrev S2x64x256 : Shape := ⟨3, ![2, 64, 256]⟩
abbrev S4x2x256x256 : Shape := ⟨4, ![4, 2, 256, 256]⟩
abbrev S8 : Shape := ⟨1, ![8]⟩
abbrev S2 : Shape := ⟨1, ![2]⟩
abbrev S3x2 : Shape := ⟨2, ![3, 2]⟩
abbrev S1 : Shape := ⟨1, ![1]⟩
abbrev S_ : Shape := ⟨0, ![]⟩
abbrev S64x256 : Shape := ⟨2, ![64, 256]⟩
abbrev S1x64x256 : Shape := ⟨3, ![1, 64, 256]⟩
abbrev S1x256x1024 : Shape := ⟨3, ![1, 256, 1024]⟩
abbrev S256x1024 : Shape := ⟨2, ![256, 1024]⟩
abbrev S256x64 : Shape := ⟨2, ![256, 64]⟩
abbrev S1x256x64 : Shape := ⟨3, ![1, 256, 64]⟩
abbrev S1024x256 : Shape := ⟨2, ![1024, 256]⟩
abbrev S1024x128 : Shape := ⟨2, ![1024, 128]⟩
abbrev S256x256 : Shape := ⟨2, ![256, 256]⟩
abbrev S256x128 : Shape := ⟨2, ![256, 128]⟩
abbrev S256x32 : Shape := ⟨2, ![256, 32]⟩
abbrev S256 : Shape := ⟨1, ![256]⟩
abbrev S256x1 : Shape := ⟨2, ![256, 1]⟩
abbrev S1x1x256x64 : Shape := ⟨4, ![1, 1, 256, 64]⟩
abbrev S1x1 : Shape := ⟨2, ![1, 1]⟩
abbrev S1x1x256x256 : Shape := ⟨4, ![1, 1, 256, 256]⟩

abbrev nBuf : Space → Nat
  | .hbm => 9
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x1024, .f32⟩
  | .local _ .vmem, ⟨0, _⟩ => ⟨S2x256x1024, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x512, .f32⟩
  | .local _ .vmem, ⟨6, _⟩ => ⟨S1024x32, .f32⟩
  | .local _ .vmem, ⟨7, _⟩ => ⟨S1024x1024, .f32⟩
  | .local _ .vmem, ⟨8, _⟩ => ⟨S2x256x1024, .f32⟩
  | .local _ .vmem, ⟨9, _⟩ => ⟨S2x256x64, .bf16⟩
  | .local _ .vmem, ⟨10, _⟩ => ⟨S2x256x64, .bf16⟩
  | .local _ .vmem, ⟨11, _⟩ => ⟨S2x64x256, .bf16⟩
  | .local _ .vmem, ⟨12, _⟩ => ⟨S2x64x256, .bf16⟩
  | .local _ .vmem, ⟨13, _⟩ => ⟨S4x2x256x256, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_21 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_20 : BitVec 32 := 4#32
  let v43 : BitVec 32 := Scalar.muli v11 c4_i32_20
  let v44 : BitVec 32 := Scalar.addi c0_i32_21 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v45 : BitVec 32 := Scalar.muli v5 c2_i32_22
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v47 : BitVec 32 := Scalar.muli v8 c1_i32_23
  let v48 : BitVec 32 := Scalar.addi v46 v47
  v48.toNat
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v49 : BitVec 32 := Scalar.muli v2 c4_i32_25
  let v50 : BitVec 32 := Scalar.addi c0_i32_26 v49
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_27 : BitVec 32 := 2#32
  let v51 : BitVec 32 := Scalar.muli v12 c2_i32_27
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v53 : BitVec 32 := Scalar.muli v8 c1_i32_28
  let v54 : BitVec 32 := Scalar.addi v52 v53
  v54.toNat
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v55 : BitVec 32 := Scalar.muli v2 c4_i32_30
  let v56 : BitVec 32 := Scalar.addi c0_i32_31 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v57 : BitVec 32 := Scalar.muli v5 c2_i32_32
  let v58 : BitVec 32 := Scalar.addi v56 v57
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_6 v8
  let c1_i32_33 : BitVec 32 := 1#32
  let v59 : BitVec 32 := Scalar.muli v13 c1_i32_33
  let v60 : BitVec 32 := Scalar.addi v58 v59
  v60.toNat
def k0_dev4 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v61 : BitVec 32 := Scalar.muli v2 c4_i32_35
  let v62 : BitVec 32 := Scalar.addi c0_i32_36 v61
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_37 : BitVec 32 := 2#32
  let v63 : BitVec 32 := Scalar.muli v14 c2_i32_37
  let v64 : BitVec 32 := Scalar.addi v62 v63
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_38 : BitVec 32 := 1#32
  let v65 : BitVec 32 := Scalar.muli v15 c1_i32_38
  let v66 : BitVec 32 := Scalar.addi v64 v65
  v66.toNat
def k0_off1 (d0 : Dev nD) : Fin 2 → Nat :=
  let c0_45 : Index := 0#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v77 : BitVec 32 := Scalar.muli v10 c256_i32
  let v78 : Index := Scalar.indexCast v77
  ![0, v78.toNat]
def k0_dev5 (d0 : Dev nD) : Nat :=
  let c0_i32_69 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_68 : BitVec 32 := 4#32
  let v107 : BitVec 32 := Scalar.muli v11 c4_i32_68
  let v108 : BitVec 32 := Scalar.addi c0_i32_69 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v109 : BitVec 32 := Scalar.muli v5 c2_i32_70
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v111 : BitVec 32 := Scalar.muli v8 c1_i32_71
  let v112 : BitVec 32 := Scalar.addi v110 v111
  v112.toNat
def k0_dev6 (d0 : Dev nD) : Nat :=
  let c0_i32_75 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_74 : BitVec 32 := 4#32
  let v117 : BitVec 32 := Scalar.muli v11 c4_i32_74
  let v118 : BitVec 32 := Scalar.addi c0_i32_75 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v119 : BitVec 32 := Scalar.muli v5 c2_i32_76
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v121 : BitVec 32 := Scalar.muli v8 c1_i32_77
  let v122 : BitVec 32 := Scalar.addi v120 v121
  v122.toNat
def k0_off2 (d0 : Dev nD) : Fin 2 → Nat :=
  let c0_82 : Index := 0#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32_81 : BitVec 32 := 256#32
  let v133 : BitVec 32 := Scalar.muli v10 c256_i32_81
  let v134 : Index := Scalar.indexCast v133
  ![0, v134.toNat]
def k0_off3 (d0 : Dev nD) : Fin 2 → Nat :=
  let c0_83 : Index := 0#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32 : BitVec 32 := 128#32
  let v137 : BitVec 32 := Scalar.muli v10 c128_i32
  let v138 : Index := Scalar.indexCast v137
  ![0, v138.toNat]
def k0_dev7 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v311 : BitVec 32 := Scalar.muli v2 c4_i32_202
  let v312 : BitVec 32 := Scalar.addi c0_i32_203 v311
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_204 : BitVec 32 := 2#32
  let v313 : BitVec 32 := Scalar.muli v12 c2_i32_204
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v315 : BitVec 32 := Scalar.muli v8 c1_i32_205
  let v316 : BitVec 32 := Scalar.addi v314 v315
  v316.toNat
def k0_dev8 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v325 : BitVec 32 := Scalar.muli v2 c4_i32_218
  let v326 : BitVec 32 := Scalar.addi c0_i32_219 v325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_220 : BitVec 32 := 2#32
  let v327 : BitVec 32 := Scalar.muli v5 c2_i32_220
  let v328 : BitVec 32 := Scalar.addi v326 v327
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_6 v8
  let c1_i32_221 : BitVec 32 := 1#32
  let v329 : BitVec 32 := Scalar.muli v13 c1_i32_221
  let v330 : BitVec 32 := Scalar.addi v328 v329
  v330.toNat
def k0_dev9 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v339 : BitVec 32 := Scalar.muli v2 c4_i32_234
  let v340 : BitVec 32 := Scalar.addi c0_i32_235 v339
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_236 : BitVec 32 := 2#32
  let v341 : BitVec 32 := Scalar.muli v14 c2_i32_236
  let v342 : BitVec 32 := Scalar.addi v340 v341
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_237 : BitVec 32 := 1#32
  let v343 : BitVec 32 := Scalar.muli v15 c1_i32_237
  let v344 : BitVec 32 := Scalar.addi v342 v343
  v344.toNat
def k0_dev10 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v463 : BitVec 32 := Scalar.muli v2 c4_i32_304
  let v464 : BitVec 32 := Scalar.addi c0_i32_305 v463
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_306 : BitVec 32 := 2#32
  let v465 : BitVec 32 := Scalar.muli v12 c2_i32_306
  let v466 : BitVec 32 := Scalar.addi v464 v465
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_307 : BitVec 32 := 1#32
  let v467 : BitVec 32 := Scalar.muli v8 c1_i32_307
  let v468 : BitVec 32 := Scalar.addi v466 v467
  v468.toNat
def k0_dev11 (d0 : Dev nD) : Nat :=
  let c0_i32_321 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_320 : BitVec 32 := 4#32
  let v477 : BitVec 32 := Scalar.muli v2 c4_i32_320
  let v478 : BitVec 32 := Scalar.addi c0_i32_321 v477
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_322 : BitVec 32 := 2#32
  let v479 : BitVec 32 := Scalar.muli v5 c2_i32_322
  let v480 : BitVec 32 := Scalar.addi v478 v479
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_6 v8
  let c1_i32_323 : BitVec 32 := 1#32
  let v481 : BitVec 32 := Scalar.muli v13 c1_i32_323
  let v482 : BitVec 32 := Scalar.addi v480 v481
  v482.toNat
def k0_dev12 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_336 : BitVec 32 := 4#32
  let v491 : BitVec 32 := Scalar.muli v2 c4_i32_336
  let v492 : BitVec 32 := Scalar.addi c0_i32_337 v491
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_338 : BitVec 32 := 2#32
  let v493 : BitVec 32 := Scalar.muli v14 c2_i32_338
  let v494 : BitVec 32 := Scalar.addi v492 v493
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_339 : BitVec 32 := 1#32
  let v495 : BitVec 32 := Scalar.muli v15 c1_i32_339
  let v496 : BitVec 32 := Scalar.addi v494 v495
  v496.toNat
def k0_off4 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32_349 : BitVec 32 := 256#32
  let v509 : BitVec 32 := Scalar.muli v10 c256_i32_349
  let v510 : Index := Scalar.indexCast v509
  let c0_350 : Index := 0#32
  ![v510.toNat, 0]
def k0_off5 (d0 : Dev nD) : Fin 2 → Nat :=
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_9 v5
  let v17 : BitVec 32 := Scalar.muli c2_i32_10 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c256_i32_365 : BitVec 32 := 256#32
  let v527 : BitVec 32 := Scalar.muli v18 c256_i32_365
  let v528 : Index := Scalar.indexCast v527
  let c0_366 : Index := 0#32
  ![v528.toNat, 0]
def k0_off6 (d0 : Dev nD) : Fin 2 → Nat :=
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let v21 : BitVec 32 := Scalar.addi v19 v20
  let c256_i32_447 : BitVec 32 := 256#32
  let v585 : BitVec 32 := Scalar.muli v21 c256_i32_447
  let v586 : Index := Scalar.indexCast v585
  let c0_448 : Index := 0#32
  ![v586.toNat, 0]
def k0_off7 (d0 : Dev nD) : Fin 2 → Nat :=
  let c2_i32_14 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.muli c2_i32_14 v22
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_15 v8
  let v25 : BitVec 32 := Scalar.addi v23 v24
  let c256_i32_529 : BitVec 32 := 256#32
  let v643 : BitVec 32 := Scalar.muli v25 c256_i32_529
  let v644 : Index := Scalar.indexCast v643
  let c0_530 : Index := 0#32
  ![v644.toNat, 0]
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x128, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x128, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S2x16x256x256, .f32⟩
  | .hbm, ⟨20, _⟩ => ⟨S2x256x16x32, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S2x16x256x256, .f32⟩
  | .hbm, ⟨25, _⟩ => ⟨S2x16x256x256, .f32⟩
  | .hbm, ⟨26, _⟩ => ⟨S_, .f32⟩
  | .hbm, ⟨27, _⟩ => ⟨S2x16x256, .f32⟩
  | .hbm, ⟨28, _⟩ => ⟨S2x16x256x1, .f32⟩
  | .hbm, ⟨29, _⟩ => ⟨S2x16x256x256, .f32⟩
  | .hbm, ⟨30, _⟩ => ⟨S2x16x256x256, .f32⟩
  | .hbm, ⟨31, _⟩ => ⟨S2x16x256x256, .f32⟩
  | .hbm, ⟨32, _⟩ => ⟨S_, .f32⟩
  | .hbm, ⟨33, _⟩ => ⟨S2x16x256, .f32⟩
  | .hbm, ⟨34, _⟩ => ⟨S2x16x256x1, .f32⟩
  | .hbm, ⟨35, _⟩ => ⟨S2x16x256x256, .f32⟩
  | .hbm, ⟨36, _⟩ => ⟨S2x16x256x256, .f32⟩
  | .hbm, ⟨37, _⟩ => ⟨S2x16x64x256, .f32⟩
  | .hbm, ⟨38, _⟩ => ⟨S2x256x16x64, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Protocol.lean ====
/-
# The exchange protocol of the latent-attention kernel

Eight devices, named `4x + 2y + z`. Every device meets four others — the one across `x`, the one across `y`, the one
across `z` and the one across both `y` and `z` — on the runtime's barrier semaphore, then swaps its latent block and its
up-projection block with the device across `x`, and its attention output with the other three.

Semaphores, and what each landing hands over:

* the barrier: four units, one from each of the four peers; the unit of a peer hands over that peer's landing buffers
  for what this device sends it, at any contents;
* `x_send[i]`, `x_recv[i]`: one landing each; the send returns the half share of the source, the receive hands over the
  landing buffer holding the block of the device across `x`;
* `o_send[j,b]`, `o_recv[j,b]`: one landing each; the send returns the share of the own output window that was sent, the
  receive hands over window `(j,b)` holding batch `b`'s output of the `j`-th of the other three peers.

This module names the peers, the semaphores, the windows, the payloads, the schedule, what a device owes at each point
of its run, and the levels under which each of its waits is allowed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER : Emb UB 𝕄).LandsIn (upEmb : UEmb _ 𝕄) := by unfold ER; infer_instance

/-! ## The peers -/

set_option backward.proofsInPublic true in
/-- The device across `x` (0), `y` (1), `z` (2), `y` and `z` (3). -/
def peer (d : Fin 4) (c : Dev nD) : Dev nD :=
  ⟨(c.val ^^^ (match d with | 0 => 4 | 1 => 2 | 2 => 1 | 3 => 3)) % 8, Nat.mod_lt _ (by decide)⟩

/-- Every peer relation goes both ways. -/
theorem peer_peer (d : Fin 4) (c : Dev nD) : peer d (peer d c) = c := by revert d c; decide

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 3 c := Fin.ext ((k0_dev4_eq c).trans (by revert c; decide))
theorem dev5_eq (c : Dev nD) : (⟨k0_dev5 c, k0_dev5_lt c⟩ : Dev nD) = peer 0 c := Fin.ext ((k0_dev5_eq c).trans (by revert c; decide))
theorem dev6_eq (c : Dev nD) : (⟨k0_dev6 c, k0_dev6_lt c⟩ : Dev nD) = peer 0 c := Fin.ext ((k0_dev6_eq c).trans (by revert c; decide))
theorem dev7_eq (c : Dev nD) : (⟨k0_dev7 c, k0_dev7_lt c⟩ : Dev nD) = peer 1 c := Fin.ext ((k0_dev7_eq c).trans (by revert c; decide))
theorem dev8_eq (c : Dev nD) : (⟨k0_dev8 c, k0_dev8_lt c⟩ : Dev nD) = peer 2 c := Fin.ext ((k0_dev8_eq c).trans (by revert c; decide))
theorem dev9_eq (c : Dev nD) : (⟨k0_dev9 c, k0_dev9_lt c⟩ : Dev nD) = peer 3 c := Fin.ext ((k0_dev9_eq c).trans (by revert c; decide))
theorem dev10_eq (c : Dev nD) : (⟨k0_dev10 c, k0_dev10_lt c⟩ : Dev nD) = peer 1 c := Fin.ext ((k0_dev10_eq c).trans (by revert c; decide))
theorem dev11_eq (c : Dev nD) : (⟨k0_dev11 c, k0_dev11_lt c⟩ : Dev nD) = peer 2 c := Fin.ext ((k0_dev11_eq c).trans (by revert c; decide))
theorem dev12_eq (c : Dev nD) : (⟨k0_dev12 c, k0_dev12_lt c⟩ : Dev nD) = peer 3 c := Fin.ext ((k0_dev12_eq c).trans (by revert c; decide))

/-! ## The memrefs -/

abbrev cL : Memref sig .tc .vmem S2x256x64 .bf16 := Memref.whole cc0_scratch9
abbrev cR : Memref sig .tc .vmem S2x256x64 .bf16 := Memref.whole cc0_scratch10
abbrev kL : Memref sig .tc .vmem S2x64x256 .bf16 := Memref.whole cc0_scratch11
abbrev kR : Memref sig .tc .vmem S2x64x256 .bf16 := Memref.whole cc0_scratch12
abbrev oM : Memref sig .tc .vmem S4x2x256x256 .bf16 := Memref.whole cc0_scratch13

theorem slot_inb (j : Fin 4) (b : Fin 2) : ∀ a, (![j.val, b.val, 0, 0] : Fin 4 → Nat) a + S1x1x256x256.size a ≤ S4x2x256x256.size a := by
  revert j b; decide

/-- Window `(j,b)` of the attention outputs. -/
abbrev slot (j : Fin 4) (b : Fin 2) : Memref sig .tc .vmem S256x256 .bf16 :=
  (oM.slice (Rect.unit (s := S4x2x256x256) ![j.val, b.val, 0, 0] S1x1x256x256.size (slot_inb j b)) (fun _ => rfl)).squeeze S256x256
    squeezes_S1x1x256x256_S256x256

/-! ## The semaphores -/

abbrev barS : Sem sig := (SemArray.scalar (sig.barrier 0 rfl) : Sems sig S_).sem

theorem sem2_inb (i : Fin 2) : ∀ a, (![i.val] : Fin 1 → Nat) a + S1.size a ≤ S2.size a := by revert i; decide
theorem sem6_inb (j : Fin 3) (b : Fin 2) : ∀ a, (![j.val, b.val] : Fin 2 → Nat) a + S1x1.size a ≤ S3x2.size a := by revert j b; decide

abbrev xSend (i : Fin 2) : DmaSem sig := ((cc0_scratch16.slice (Rect.unit (s := S2) ![i.val] S1.size (sem2_inb i))).squeeze S_ squeezes_S1_S_).sem
abbrev xRecv (i : Fin 2) : DmaSem sig := ((cc0_scratch17.slice (Rect.unit (s := S2) ![i.val] S1.size (sem2_inb i))).squeeze S_ squeezes_S1_S_).sem
abbrev oSend (j : Fin 3) (b : Fin 2) : DmaSem sig :=
  ((cc0_scratch18.slice (Rect.unit (s := S3x2) ![j.val, b.val] S1x1.size (sem6_inb j b))).squeeze S_ squeezes_S1x1_S_).sem
abbrev oRecv (j : Fin 3) (b : Fin 2) : DmaSem sig :=
  ((cc0_scratch19.slice (Rect.unit (s := S3x2) ![j.val, b.val] S1x1.size (sem6_inb j b))).squeeze S_ squeezes_S1x1_S_).sem

theorem xSend_val (i : Fin 2) : (xSend i).val = 10 + i.val := by revert i; decide
theorem xRecv_val (i : Fin 2) : (xRecv i).val = 12 + i.val := by revert i; decide
theorem oSend_val (j : Fin 3) (b : Fin 2) : (oSend j b).val = 14 + 2 * j.val + b.val := by revert j b; decide
theorem oRecv_val (j : Fin 3) (b : Fin 2) : (oRecv j b).val = 20 + 2 * j.val + b.val := by revert j b; decide

abbrev cell (c : Dev nD) (s : SemLoc sig) : GSem nD τ sig := ((c : Thread nD τ), s)

/-- The credit of a latent block, of a pair of up-projection blocks, of an output window. -/
abbrev NX : ℕ := (cR : Memref sig .tc .vmem S2x256x64 .bf16).view.dmaCredit
abbrev NK : ℕ := (kR : Memref sig .tc .vmem S2x64x256 .bf16).view.dmaCredit
abbrev NO : ℕ := (slot 0 0).view.dmaCredit
theorem NX_pos : 0 < NX := View.dmaCredit_pos _ (by decide)
theorem NK_pos : 0 < NK := View.dmaCredit_pos _ (by decide)
theorem NO_pos : 0 < NO := View.dmaCredit_pos _ (by decide)

/-! ## The payloads -/

/-- What the devices exchange: per device, the two latent blocks, the two up-projection blocks, the two outputs. -/
structure Vals (F : FTy → Type) where
  cv : Dev nD → Fin 2 → Vec F S1x256x64 .bf16
  kv : Dev nD → Fin 2 → Vec F S1x64x256 .bf16
  ov : Dev nD → Fin 2 → Vec F S256x256 .bf16

variable (A : Vals F)

theorem cbox_inb (b : Fin 2) : ∀ a, (![b.val, 0, 0] : Fin 3 → Nat) a + S1x256x64.size a ≤ S2x256x64.size a := by revert b; decide
theorem kbox_inb (b : Fin 2) : ∀ a, (![b.val, 0, 0] : Fin 3 → Nat) a + S1x64x256.size a ≤ S2x64x256.size a := by revert b; decide
abbrev cbox (b : Fin 2) : Rect S2x256x64 := Rect.unit (s := S2x256x64) ![b.val, 0, 0] S1x256x64.size (cbox_inb b)
abbrev kbox (b : Fin 2) : Rect S2x64x256 := Rect.unit (s := S2x64x256) ![b.val, 0, 0] S1x64x256.size (kbox_inb b)

/-- The latent buffer's contents `f` hold device `c`'s two blocks. -/
def HoldsC (c : Dev nD) (f : S2x256x64.Idx → Elt F .bf16) : Prop := ∀ b (x : S1x256x64.Idx), f ((cbox b).emb x) = A.cv c b x
def HoldsK (c : Dev nD) (f : S2x64x256.Idx → Elt F .bf16) : Prop := ∀ b (x : S1x64x256.Idx), f ((kbox b).emb x) = A.kv c b x

/-- Window `(j,b)` on device `c` at share `q` and contents `f`. -/
def slotPts (c : Dev nD) (j : Fin 4) (b : Fin 2) (q : PosShare TreeShare) (f : S4x2x256x256.Idx → Elt F .bf16) : sProp 𝕄 :=
  (slot j b).view.loc (c : Thread nD τ) ↦[(slot j b).view.set]{q} f

omit [FloatOps F] in
instance slotPts_storable (c j b q) (f) : BI.Storable (upEmb : UEmb _ 𝕄) (slotPts (F := F) c j b q f) := by unfold slotPts; infer_instance

def cRPts (c : Dev nD) (f : S2x256x64.Idx → Elt F .bf16) : sProp 𝕄 := ((c : Thread nD τ).loc cc0_scratch10) ↦{fullShare} f
def kRPts (c : Dev nD) (f : S2x64x256.Idx → Elt F .bf16) : sProp 𝕄 := ((c : Thread nD τ).loc cc0_scratch12) ↦{fullShare} f
def cLPts (c : Dev nD) (q : PosShare TreeShare) (f : S2x256x64.Idx → Elt F .bf16) : sProp 𝕄 := ((c : Thread nD τ).loc cc0_scratch9) ↦{q} f
def kLPts (c : Dev nD) (q : PosShare TreeShare) (f : S2x64x256.Idx → Elt F .bf16) : sProp 𝕄 := ((c : Thread nD τ).loc cc0_scratch11) ↦{q} f
omit [FloatOps F] in
instance cRPts_storable (c) (f) : BI.Storable (upEmb : UEmb _ 𝕄) (cRPts (F := F) c f) := by unfold cRPts; infer_instance
omit [FloatOps F] in
instance kRPts_storable (c) (f) : BI.Storable (upEmb : UEmb _ 𝕄) (kRPts (F := F) c f) := by unfold kRPts; infer_instance
omit [FloatOps F] in
instance cLPts_storable (c q) (f) : BI.Storable (upEmb : UEmb _ 𝕄) (cLPts (F := F) c q f) := by unfold cLPts; infer_instance
omit [FloatOps F] in
instance kLPts_storable (c q) (f) : BI.Storable (upEmb : UEmb _ 𝕄) (kLPts (F := F) c q f) := by unfold kLPts; infer_instance

/-- The share of the source that a latent transfer takes with it, the share that a reader keeps meanwhile. -/
abbrev qSent : PosShare TreeShare := fullShare.left
abbrev qKept : PosShare TreeShare := fullShare.right

/-- The share of the own output window that transfer `j` takes; the fourth, `qRead`, stays for reading. -/
def qO : Fin 3 → PosShare TreeShare
  | 0 => fullShare.left.left | 1 => fullShare.left.right | 2 => fullShare.right.left
abbrev qRead : PosShare TreeShare := fullShare.right.right

/-- What the barrier unit of peer `d` hands device `c`: that peer's landing buffers for what `c` sends it. -/
def barPay (c : Dev nD) : Fin 4 → sProp 𝕄
  | 0 => iprop((∃ f, cRPts (peer 0 c) f) ∗ ∃ f, kRPts (peer 0 c) f)
  | 1 => iprop((∃ f, slotPts (peer 1 c) 0 0 fullShare f) ∗ ∃ f, slotPts (peer 1 c) 0 1 fullShare f)
  | 2 => iprop((∃ f, slotPts (peer 2 c) 1 0 fullShare f) ∗ ∃ f, slotPts (peer 2 c) 1 1 fullShare f)
  | 3 => iprop((∃ f, slotPts (peer 3 c) 2 0 fullShare f) ∗ ∃ f, slotPts (peer 3 c) 2 1 fullShare f)

/-- What the landings on device `c`'s transfer semaphores hand over. -/
def xSendPay (c : Dev nD) : Fin 2 → sProp 𝕄
  | 0 => iprop(∃ f, cLPts c qSent f)
  | 1 => iprop(∃ f, kLPts c qSent f)
def xRecvPay (c : Dev nD) : Fin 2 → sProp 𝕄
  | 0 => iprop(∃ f, ⌜HoldsC A (peer 0 c) f⌝ ∗ cRPts c f)
  | 1 => iprop(∃ f, ⌜HoldsK A (peer 0 c) f⌝ ∗ kRPts c f)
def oSendPay (c : Dev nD) (j : Fin 3) (b : Fin 2) : sProp 𝕄 := iprop(∃ f, slotPts c 3 b (qO j) f)
def oRecvPay (c : Dev nD) (j : Fin 3) (b : Fin 2) : sProp 𝕄 :=
  iprop(∃ f, ⌜(slot j.castSucc b).view.read (Elt F) f = A.ov (peer j.succ c) b⌝ ∗ slotPts c j.castSucc b fullShare f)

/-- A transfer semaphore's payload, by its number. -/
def dmaPay (c : Dev nD) : ℕ → sProp 𝕄
  | 10 => xSendPay c 0 | 11 => xSendPay c 1 | 12 => xRecvPay A c 0 | 13 => xRecvPay A c 1
  | 14 => oSendPay c 0 0 | 15 => oSendPay c 0 1 | 16 => oSendPay c 1 0 | 17 => oSendPay c 1 1 | 18 => oSendPay c 2 0 | 19 => oSendPay c 2 1
  | 20 => oRecvPay A c 0 0 | 21 => oRecvPay A c 0 1 | 22 => oRecvPay A c 1 0 | 23 => oRecvPay A c 1 1 | 24 => oRecvPay A c 2 0 | 25 => oRecvPay A c 2 1
  | _ => iprop(emp)

/-- A transfer semaphore's credit, by its number. -/
def dmaAmt (n : ℕ) : ℕ := if n = 10 ∨ n = 12 then NX else if n = 11 ∨ n = 13 then NK else NO

omit [FloatOps F] in
instance barPay_storable (c d) : BI.Storable (upEmb : UEmb _ 𝕄) (barPay (F := F) c d) := by
  unfold barPay; split <;> infer_instance
omit [FloatOps F] in
instance dmaPay_storable (c n) : BI.Storable (upEmb : UEmb _ 𝕄) (dmaPay (F := F) A c n) := by
  unfold dmaPay xSendPay xRecvPay oSendPay oRecvPay; split <;> infer_instance

/-! ## The schedule -/

/-- One round: a barrier has four duties of one unit, a transfer semaphore one duty of its block's credit. -/
def rd : Rounds.Schedule (GSem nD τ sig) (Fin 4) 𝕄 where
  duties g r := if r = 0 ∧ g.1.2 = .tc then (match g.2 with | .reg _ => Finset.univ | .dma s => if 10 ≤ s.val then {0} else ∅) else ∅
  unitless _ := False
  amount g _ _ := match g.2 with | .reg _ => 1 | .dma s => dmaAmt s.val
  payload g _ d := match g.2 with | .reg _ => barPay g.1.1 d | .dma s => dmaPay A g.1.1 s.val
  amount_pos g _ _ _ := by
    cases g.2 with
    | reg _ => exact Nat.one_pos
    | dma s => show 0 < dmaAmt s.val; unfold dmaAmt; split; exact NX_pos; split; exact NK_pos; exact NO_pos

omit [FloatOps F] in
instance rd_payload_storable (g : GSem nD τ sig) (r : ℕ) (d : Fin 4) : BI.Storable (upEmb : UEmb _ 𝕄) ((rd (F := F) A).payload g r d) := by
  obtain ⟨t, s⟩ := g
  cases s with
  | reg _ => exact barPay_storable _ _
  | dma s => exact dmaPay_storable A _ _

section Sched
variable (c : Dev nD)

omit [FloatOps F] in
theorem duties_bar : (rd A).duties (cell c (.reg barS)) 0 = Finset.univ := by
  dsimp only [rd]; exact if_pos ⟨rfl, rfl⟩
omit [FloatOps F] in
theorem duties_dma {s : DmaSem sig} (h : 10 ≤ s.val) : (rd A).duties (cell c (.dma s)) 0 = {0} := by
  dsimp only [rd]; rw [if_pos ⟨rfl, rfl⟩, if_pos h]
omit [FloatOps F] in
theorem duties_later (g : GSem nD τ sig) : ∀ r, 1 ≤ r → (rd A).duties g r = ∅ :=
  fun r hr => if_neg fun h => by omega

omit [FloatOps F] in
theorem expect_bar : (rd A).expect (cell c (.reg barS)) 0 = 4 := by
  unfold Schedule.expect Schedule.amountOf
  rw [duties_bar]; rfl
omit [FloatOps F] in
theorem expect_dma {s : DmaSem sig} (h : 10 ≤ s.val) : (rd A).expect (cell c (.dma s)) 0 = dmaAmt s.val := by
  unfold Schedule.expect Schedule.amountOf
  rw [duties_dma A c h, Finset.sum_singleton]; rfl

omit [FloatOps F] in
/-- The rest of a barrier's round: the four peers' payloads. -/
theorem rest_bar : bigSep ((rd A).duties (cell c (.reg barS)) 0 \ ∅) (fun d => (rd A).payload (cell c (.reg barS)) 0 d)
    = iprop(barPay c 0 ∗ barPay c 1 ∗ barPay c 2 ∗ barPay c 3) := by
  rw [Finset.sdiff_empty, duties_bar, bigSep_univ_eq_bigSepL [0, 1, 2, 3] (by decide) (by decide)]; rfl
omit [FloatOps F] in
theorem rest_dma {s : DmaSem sig} (h : 10 ≤ s.val) :
    bigSep ((rd A).duties (cell c (.dma s)) 0 \ ∅) (fun d => (rd A).payload (cell c (.dma s)) 0 d) = dmaPay A c s.val := by
  rw [Finset.sdiff_empty, duties_dma A c h, bigSep_singleton]; rfl

omit [FloatOps F] in
theorem dmaPay_xSend (i : Fin 2) : dmaPay A c (xSend i).val = xSendPay c i := by rw [xSend_val]; fin_cases i <;> rfl
omit [FloatOps F] in
theorem dmaPay_xRecv (i : Fin 2) : dmaPay A c (xRecv i).val = xRecvPay A c i := by rw [xRecv_val]; fin_cases i <;> rfl
omit [FloatOps F] in
theorem dmaPay_oSend (j : Fin 3) (b : Fin 2) : dmaPay A c (oSend j b).val = oSendPay c j b := by rw [oSend_val]; fin_cases j <;> fin_cases b <;> rfl
omit [FloatOps F] in
theorem dmaPay_oRecv (j : Fin 3) (b : Fin 2) : dmaPay A c (oRecv j b).val = oRecvPay A c j b := by rw [oRecv_val]; fin_cases j <;> fin_cases b <;> rfl

theorem dmaAmt_oSend (j : Fin 3) (b : Fin 2) : dmaAmt (oSend j b).val = NO := by
  rw [oSend_val]; unfold dmaAmt; rw [if_neg (by omega), if_neg (by omega)]
theorem dmaAmt_oRecv (j : Fin 3) (b : Fin 2) : dmaAmt (oRecv j b).val = NO := by
  rw [oRecv_val]; unfold dmaAmt; rw [if_neg (by omega), if_neg (by omega)]
/-- The credit of the two `x` transfers. -/
def NXK : Fin 2 → ℕ | 0 => NX | 1 => NK
theorem dmaAmt_xSend (i : Fin 2) : dmaAmt (xSend i).val = NXK i := by rw [xSend_val]; fin_cases i <;> rfl
theorem dmaAmt_xRecv (i : Fin 2) : dmaAmt (xRecv i).val = NXK i := by rw [xRecv_val]; fin_cases i <;> rfl

end Sched

/-! ## What a device owes -/

/-- The payments a device makes, last first: to which peer, on which semaphore, how much. -/
def ev : ℕ → Fin 4 × SemLoc sig × ℕ
  | 0 => (3, .dma (oRecv 2 1), NO) | 1 => (2, .dma (oRecv 1 1), NO) | 2 => (1, .dma (oRecv 0 1), NO)
  | 3 => (3, .dma (oRecv 2 0), NO) | 4 => (2, .dma (oRecv 1 0), NO) | 5 => (1, .dma (oRecv 0 0), NO)
  | 6 => (0, .dma (xRecv 1), NK) | 7 => (0, .dma (xRecv 0), NX)
  | 8 => (3, .reg barS, 1) | 9 => (2, .reg barS, 1) | 10 => (1, .reg barS, 1) | _ => (0, .reg barS, 1)

abbrev evCell (c : Dev nD) (n : ℕ) : GSem nD τ sig := cell (peer (ev n).1 c) (ev n).2.1

/-- What device `c` still owes with its last `n` payments to come. -/
def owe (c : Dev nD) : ℕ → CellTallies nD τ sig Unit
  | 0 => 0
  | n + 1 => owe c n + tallyAt (evCell c n) () (ev n).2.2

theorem owe_pos {c : Dev nD} {g : GSem nD τ sig} {u : Unit} : ∀ {n : ℕ}, 0 < owe c n g u → ∃ k, k < n ∧ g = evCell c k
  | 0, h => absurd h (Nat.lt_irrefl 0)
  | n + 1, h => by
    unfold owe at h
    rw [Pi.add_apply, Finsupp.add_apply, tallyAt_apply] at h
    by_cases hg : g = evCell c n
    · exact ⟨n, Nat.lt_succ_self n, hg⟩
    · rw [if_neg (fun h' => hg h'.1), Nat.add_zero] at h
      obtain ⟨k, hk, he⟩ := owe_pos h
      exact ⟨k, Nat.lt_succ_of_lt hk, he⟩

def L (g : GSem nD τ sig) : Finset Unit := if g.1.2 = .tc then {()} else ∅
/-- Levels: a barrier below the `x` landings, those below the output landings; every other semaphore at the bottom. -/
def lvS : SemLoc sig → ℕ
  | .reg _ => 1
  | .dma s => if s.val = 12 ∨ s.val = 13 then 2 else if 20 ≤ s.val then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L (cell c sm) = {()} := if_pos rfl

omit [FloatOps F] in
/-- A device may wait on a semaphore whose level is below those of all the payments it still owes. -/
theorem mayWait (c : Dev nD) (sm : SemLoc sig) (n : ℕ) (h : ∀ k < n, lvS sm < lvS (ev k).2.1) :
    (levAts L lv : sProp 𝕄) ⊢ MayWait (c : Thread nD τ) sm () (owe c n) :=
  MayOwe.of_cut (L := L) (lev := lv) (lvS sm) (fun p hp => by rw [Finset.mem_singleton.mp hp, L_tc]; exact Finset.mem_singleton_self _)
    (fun g u hg => by obtain ⟨k, -, rfl⟩ := owe_pos hg; exact Finset.mem_singleton_self _)
    (fun p hp => by rw [Finset.mem_singleton.mp hp]; exact le_refl _)
    (fun g u hg => by obtain ⟨k, hk, rfl⟩ := owe_pos hg; exact h k hk)

end Cert.Mla

end
-- ==== Proof.Moves.lean ====
/-
# The steps of the exchange

One lemma for each kind of step a device takes on the shared semaphores — a barrier signal, a transfer, a wait — over
what the device must hold for it. A wait closes its cell at once: nothing lands on it again, and its counter at zero
comes back with the payload.
-/
module

public import proofs.«01_k».proof.Proof.Protocol

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (A : Vals F)

/-! ## What each step needs -/

/-- To signal peer `d`'s barrier: its cell, its duty `d`'s token. -/
def sigR (c : Dev nD) (d : Fin 4) : sProp 𝕄 :=
  iprop(∃ κ, cellInv ER (rd A) κ (cell (peer d c) (.reg barS)) ∗ dutyTok ER (cell (peer d c) (.reg barS)) 0 d
    ∗ reached ER (cell (peer d c) (.reg barS)) 0)

/-- To transfer to peer `d`, completing on the own `s₁` and on the peer's `s₂`: both cells, both duties' tokens. -/
def sendR (c : Dev nD) (s₁ : SemLoc sig) (d : Fin 4) (s₂ : SemLoc sig) : sProp 𝕄 :=
  iprop((∃ κ, cellInv ER (rd A) κ (cell c s₁)) ∗ (∃ κ, cellInv ER (rd A) κ (cell (peer d c) s₂))
    ∗ dutyTok ER (cell c s₁) 0 0 ∗ reached ER (cell c s₁) 0
    ∗ dutyTok ER (cell (peer d c) s₂) 0 0 ∗ reached ER (cell (peer d c) s₂) 0)

/-- To wait on the own semaphore `s`: its cell, and being its owner at its round. -/
def waitR (c : Dev nD) (s : SemLoc sig) : sProp 𝕄 :=
  iprop(∃ κ, cellInv ER (rd A) κ (cell c s) ∗ atPos ER (cell c s) 0 ∅ 0)

/-! ## The steps -/

/-- The signal of peer `d`'s barrier: that peer's payload goes, one payment is made. -/
theorem wp_bar_signal {α : Type} {Kt : α → sProp 𝕄} {k : PUnit.{1} → Prog (TpuEff nD τ sig (Elt F) Λ₀ .tc) α}
    (c n : Dev nD) (d : Fin 4) (hn : n = peer d c) (i : ℕ) (hi : ev i = (d, .reg barS, 1)) {k' : ℕ} (hk' : 1 = k')
    {W : Waits sig Unit} :
    iprop(sigR A c d ∗ owes (c : Thread nD τ) (owe c (i + 1)) W ∗ barPay (peer d c) d)
      ⊢ iprop((owes (c : Thread nD τ) (owe c i) W -∗ wp frame (wpE (defs₀ (F := F)) 𝒱₀ (c : Thread nD τ) none) Set.univ (k ⟨⟩) Kt)
          -∗ wp frame (wpE (defs₀ (F := F)) 𝒱₀ (c : Thread nD τ) none) Set.univ (.op (.semSignal (Dev.tc n : Thread nD τ) barS k') k) Kt) := by
  subst hn
  unfold sigR
  iintro ⟨⟨%κ, #HI, Ht, #Hr⟩, HO, Hp⟩
  iapply (Rounds.wp_signal 𝒱₀ ER (rd A) (c : Thread nD τ) none (dst := (peer d c : Thread nD τ)) (κ := κ) (r := 0) (d := d)
      (by rw [duties_bar]; exact Finset.mem_univ _) (show (rd A).amount (cell (peer d c) (.reg barS)) 0 d = k' from hk') () (owe c i)
      (by subst hk'; show owe c i + tallyAt (evCell c i) () (ev i).2.2 = _; unfold evCell; rw [hi]))
  isplitr; · iexact HI
  isplitl [HO]; · iexact HO
  isplitl [Ht]; · iexact Ht
  isplitl [Hp]
  · have h : barPay (peer d c) d ⊢ (rd A).payload (cell (peer d c) (.reg barS)) 0 d := BI.Entails.refl _
    iapply h; iexact Hp
  iexact Hr

/-- A wait for all that lands on one of the own cells: the payloads come, and the counter, at zero for good. -/
theorem wp_wait_cell {α : Type} {Kt : α → sProp 𝕄} {k : PUnit.{1} → Prog (TpuEff nD τ sig (Elt F) Λ₀ .tc) α}
    (c : Dev nD) {w : TpuEff nD τ sig (Elt F) Λ₀ .tc PUnit} (sm : SemLoc sig) {k' : ℕ} (n : ℕ)
    (hw : ∀ K : PUnit → sProp 𝕄, wpE (defs₀ (F := F)) 𝒱₀ (c : Thread nD τ) none Set.univ w K = waitSpec (c : Thread nD τ) Set.univ sm k' K)
    (hk : k' = (rd A).expect (cell c sm) 0) (hl : ∀ k < n, lvS sm < lvS (ev k).2.1) {W : Waits sig Unit} :
    iprop(waitR A c sm ∗ cred (tallyAt (cell c sm) () k') ∗ owes (c : Thread nD τ) (owe c n) W ∗ levAts L lv)
      ⊢ iprop(((owes (c : Thread nD τ) (owe c n) (insert (sm, ()) W) ∗ semVal (cell c sm) 0
            ∗ bigSep ((rd A).duties (cell c sm) 0 \ ∅) (fun d => (rd A).payload (cell c sm) 0 d))
          -∗ wp frame (wpE (defs₀ (F := F)) 𝒱₀ (c : Thread nD τ) none) Set.univ (k ⟨⟩) Kt)
          -∗ wp frame (wpE (defs₀ (F := F)) 𝒱₀ (c : Thread nD τ) none) Set.univ (.op w k) Kt) := by
  unfold waitR
  iintro ⟨⟨%κ, #HI, Hat⟩, Hc, HO, Hlev⟩ Hk
  iapply (Rounds.wp_wait_rest_token 𝒱₀ ER (rd A) (c : Thread nD τ) none (κ := κ) hw (Set.mem_univ _) () (O := owe c n) (W := W) (R := 0) (m := 0)
      (T := ∅) ((Nat.zero_add _).trans hk)) $$ [Hc HO Hlev Hat]
  · isplitr; · iexact HI
    isplitl [Hc]; · iexact Hc
    isplitl [HO]; · iexact HO
    isplitl [Hlev]; · iapply (mayWait c sm n hl); iexact Hlev
    iexact Hat
  iintro ⟨HO, Hat, -, Hp⟩
  imod (Rounds.cell_close ER (rd A) (Set.mem_univ κ) (fun h => h) (R := 0 + 1) (duties_later A (cell c sm))) $$ [Hat] with Hz
  · isplitr; · iexact HI
    iexact Hat
  iapply Hk
  isplitl [HO]; · iexact HO
  isplitl [Hz] <;> iassumption

/-- The barrier wait: the four peers' landing buffers. -/
theorem wp_bar_wait {α : Type} {Kt : α → sProp 𝕄} {k : PUnit.{1} → Prog (TpuEff nD τ sig (Elt F) Λ₀ .tc) α}
    (c : Dev nD) (n : ℕ) {k' : ℕ} (hk' : k' = 4) (hl : ∀ k < n, lvS (.reg barS) < lvS (ev k).2.1) {W : Waits sig Unit} :
    iprop(waitR A c (.reg barS) ∗ cred (tallyAt (cell c (.reg barS)) () 4) ∗ owes (c : Thread nD τ) (owe c n) W ∗ levAts L lv)
      ⊢ iprop(((owes (c : Thread nD τ) (owe c n) (insert (.reg barS, ()) W) ∗ semVal (cell c (.reg barS)) 0
            ∗ barPay c 0 ∗ barPay c 1 ∗ barPay c 2 ∗ barPay c 3)
          -∗ wp frame (wpE (defs₀ (F := F)) 𝒱₀ (c : Thread nD τ) none) Set.univ (k ⟨⟩) Kt)
          -∗ wp frame (wpE (defs₀ (F := F)) 𝒱₀ (c : Thread nD τ) none) Set.univ (.op (.semWait barS k') k) Kt) := by
  subst hk'
  rw [← rest_bar A c]
  exact wp_wait_cell A c (.reg barS) n (wpE_semWait_eq 𝒱₀ (c : Thread nD τ) none Set.univ) (expect_bar A c).symm hl

/-- A wait on one of the transfer semaphores: what its landing hands over. -/
theorem wp_dma_wait {α : Type} {Kt : α → sProp 𝕄} {k : PUnit.{1} → Prog (TpuEff nD τ sig (Elt F) Λ₀ .tc) α}
    (c : Dev nD) {sp sp' : Space} {s s' : Shape} {e e' : EltTy} {sem : DmaSem sig}
    {src : Memref sig .tc sp' s' e'} {dst : Memref sig .tc sp s e} {hsrc : src.view.WordExact} {hdst : dst.view.WordExact}
    (n : ℕ) (h10 : 10 ≤ sem.val) {N : ℕ} (hN : dst.view.dmaCredit = N) (hA : dmaAmt sem.val = N)
    (hl : ∀ k < n, lvS (.dma sem) < lvS (ev k).2.1) {P : sProp 𝕄} (hP : dmaPay A c sem.val = P) {W : Waits sig Unit} :
    iprop(waitR A c (.dma sem) ∗ cred (tallyAt (cell c (.dma sem)) () N) ∗ owes (c : Thread nD τ) (owe c n) W ∗ levAts L lv)
      ⊢ iprop(((owes (c : Thread nD τ) (owe c n) (insert (.dma sem, ()) W) ∗ semVal (cell c (.dma sem)) 0 ∗ P)
          -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sem src dst hsrc hdst) k) Kt) := by
  subst hN hP
  rw [← rest_dma A c h10]
  exact wp_wait_cell A c (.dma sem) n (wpE_waitDma2_eq 𝒱₀ (c : Thread nD τ) none Set.univ) (by rw [expect_dma A c h10, hA]) hl

/-- A transfer to peer `d`, from what its source and its destination hold: the source's share `q` goes with it. -/
theorem wp_send {α : Type} {Kt : α → sProp 𝕄} {k : PUnit.{1} → Prog (TpuEff nD τ sig (Elt F) Λ₀ .tc) α}
    (c n : Dev nD) (d : Fin 4) (hn : n = peer d c) (i : ℕ) {sS sR : DmaSem sig} {N : ℕ} (hi : ev i = (d, .dma sR, N))
    (hS : 10 ≤ sS.val) (hR : 10 ≤ sR.val) (hNS : dmaAmt sS.val = N) (hNR : dmaAmt sR.val = N)
    {s : Shape} {e : EltTy} {src dst : Memref sig .tc .vmem s e} (hN : dst.view.dmaCredit = N)
    {hsc : dst.view.ref.isScScratch = false} {hsrc : src.view.WordExact} {hdst : dst.view.WordExact}
    {hsem : DmaTarget.Typed .vmem (.dma sR) (.remote (Dev.tc n : Thread nD τ) (dst : Memref sig (Dev.tc n : Thread nD τ).2.kind .vmem s e) (.dma sS) hsc)}
    (q : PosShare TreeShare) (fs : Buf (Elt F) (src.view.loc (c : Thread nD τ))) (fd : Buf (Elt F) (dst.view.loc (peer d c : Thread nD τ)))
    (hp₁ : (src.view.loc (c : Thread nD τ) ↦[src.view.set]{q} fs : sProp 𝕄) ⊢ dmaPay A c sS.val)
    (hp₂ : (dst.view.loc (peer d c : Thread nD τ) ↦[dst.view.set]{fullShare} (dst.view.write (Elt F) fd (src.view.read (Elt F) fs) Finset.univ) : sProp 𝕄)
      ⊢ dmaPay A (peer d c) sR.val) {W : Waits sig Unit} :
    iprop(sendR A c (.dma sS) d (.dma sR)
        ∗ (src.view.loc (c : Thread nD τ) ↦[src.view.set]{q} fs) ∗ (dst.view.loc (peer d c : Thread nD τ) ↦[dst.view.set]{fullShare} fd)
        ∗ owes (c : Thread nD τ) (owe c (i + 1)) W)
      ⊢ iprop(((cred (tallyAt (cell c (.dma sS)) () N) ∗ owes (c : Thread nD τ) (owe c i) W)
            -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma src (.remote (Dev.tc n : Thread nD τ) dst (.dma sS) hsc) (.dma sR) hsrc hdst hsem) k) Kt) := by
  subst hn
  unfold sendR
  iintro ⟨⟨⟨%κ₁, #HI₁⟩, ⟨%κ₂, #HI₂⟩, Ht₁, #Hr₁, Ht₂, #Hr₂⟩, Hs, Hd, HO⟩
  iapply (Rounds.wp_send_pointsTo 𝒱₀ ER (rd A) (c : Thread nD τ) none (sS := .dma sS) (sem := .dma sR) (κ₁ := κ₁) (κ₂ := κ₂) (r₁ := 0) (r₂ := 0) (d₁ := 0) (d₂ := 0) (q := q) (fs := fs) (fd := fd)
    (by rw [duties_dma A c hS]; exact Finset.mem_singleton_self _) (by rw [duties_dma A (peer d c) hR]; exact Finset.mem_singleton_self _)
    () () N hN hNS hNR (owe c i) (by show owe c i + tallyAt (evCell c i) () (ev i).2.2 = _; unfold evCell; rw [hi]) (W := W) hp₁ hp₂)
  isplitr; · iexact HI₁
  isplitr; · iexact HI₂
  isplitl [Hs]; · iexact Hs
  isplitl [Hd]; · iexact Hd
  isplitl [HO]; · iexact HO
  isplitl [Ht₁]; · iexact Ht₁
  isplitr; · iexact Hr₁
  isplitl [Ht₂]; · iexact Ht₂
  iexact Hr₂

/-- The transfer of the own output window of batch `b` into window `(j,b)` of the `j`-th of the other three peers. -/
theorem wp_send_o {α : Type} {Kt : α → sProp 𝕄} {k : PUnit.{1} → Prog (TpuEff nD τ sig (Elt F) Λ₀ .tc) α}
    (c n : Dev nD) (j : Fin 3) (b : Fin 2) (hn : n = peer j.succ c) (i : ℕ) (hi : ev i = (j.succ, .dma (oRecv j b), NO))
    {hsc : (slot j.castSucc b).view.ref.isScScratch = false} {hsrc : (slot 3 b).view.WordExact} {hdst : (slot j.castSucc b).view.WordExact}
    {hsem : DmaTarget.Typed .vmem (.dma (oRecv j b)) (.remote (Dev.tc n : Thread nD τ)
      (slot j.castSucc b : Memref sig (Dev.tc n : Thread nD τ).2.kind .vmem S256x256 .bf16) (.dma (oSend j b)) hsc)}
    (fs : S4x2x256x256.Idx → Elt F .bf16) (hfs : (slot 3 b).view.read (Elt F) fs = A.ov c b)
    (fd : S4x2x256x256.Idx → Elt F .bf16) {W : Waits sig Unit} :
    iprop(sendR A c (.dma (oSend j b)) j.succ (.dma (oRecv j b))
        ∗ slotPts c 3 b (qO j) fs ∗ slotPts (peer j.succ c) j.castSucc b fullShare fd ∗ owes (c : Thread nD τ) (owe c (i + 1)) W)
      ⊢ iprop(((cred (tallyAt (cell c (.dma (oSend j b))) () NO) ∗ owes (c : Thread nD τ) (owe c i) W)
            -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma (slot 3 b) (.remote (Dev.tc n : Thread nD τ) (slot j.castSucc b) (.dma (oSend j b)) hsc) (.dma (oRecv j b)) hsrc hdst hsem) k) Kt) := by
  have hN : (slot j.castSucc b).view.dmaCredit = NO := rfl
  have hp₁ : (((slot 3 b).view.loc (c : Thread nD τ)) ↦[(slot 3 b).view.set]{qO j} fs : sProp 𝕄) ⊢ dmaPay A c (oSend j b).val := by
    rw [dmaPay_oSend]; unfold oSendPay slotPts; iintro H; iexists fs; iexact H
  have hp₂ : (((slot j.castSucc b).view.loc (peer j.succ c : Thread nD τ)) ↦[(slot j.castSucc b).view.set]{fullShare}
        ((slot j.castSucc b).view.write (Elt F) fd ((slot 3 b).view.read (Elt F) fs) Finset.univ) : sProp 𝕄)
      ⊢ dmaPay A (peer j.succ c) (oRecv j b).val := by
    rw [dmaPay_oRecv]; unfold oRecvPay slotPts; iintro H
    iexists _
    isplitr
    swap; · iexact H
    ipureintro; rw [peer_peer, View.read_write_univ]; exact hfs
  have h₁ : 10 ≤ (oSend j b).val := by rw [oSend_val]; omega
  have h₂ : 10 ≤ (oRecv j b).val := by rw [oRecv_val]; omega
  unfold slotPts
  exact wp_send A (src := slot 3 b) (dst := slot j.castSucc b) (sS := oSend j b) (sR := oRecv j b) (N := NO) c n j.succ hn i hi h₁ h₂
    (dmaAmt_oSend j b) (dmaAmt_oRecv j b) hN (qO j) fs fd hp₁ hp₂

/-- The transfer of the own latent blocks to the device across `x`. -/
theorem wp_send_c {α : Type} {Kt : α → sProp 𝕄} {k : PUnit.{1} → Prog (TpuEff nD τ sig (Elt F) Λ₀ .tc) α}
    (c n : Dev nD) (hn : n = peer 0 c)
    {hsc : cR.view.ref.isScScratch = false} {hsrc : cL.view.WordExact} {hdst : cR.view.WordExact}
    {hsem : DmaTarget.Typed .vmem (.dma (xRecv 0)) (.remote (Dev.tc n : Thread nD τ)
      (cR : Memref sig (Dev.tc n : Thread nD τ).2.kind .vmem S2x256x64 .bf16) (.dma (xSend 0)) hsc)}
    (fs : S2x256x64.Idx → Elt F .bf16) (hfs : HoldsC A c fs) (fd : S2x256x64.Idx → Elt F .bf16) {W : Waits sig Unit} :
    iprop(sendR A c (.dma (xSend 0)) 0 (.dma (xRecv 0)) ∗ cLPts c qSent fs ∗ cRPts (peer 0 c) fd ∗ owes (c : Thread nD τ) (owe c 8) W)
      ⊢ iprop(((cred (tallyAt (cell c (.dma (xSend 0))) () NX) ∗ owes (c : Thread nD τ) (owe c 7) W)
            -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma cL (.remote (Dev.tc n : Thread nD τ) cR (.dma (xSend 0)) hsc) (.dma (xRecv 0)) hsrc hdst hsem) k) Kt) := by
  have e₁ : (cL.view).set = Finset.univ := View.set_whole cc0_scratch9
  have e₂ : (cR.view).set = Finset.univ := View.set_whole cc0_scratch10
  have ew : (cR.view).write (Elt F) fd ((cL.view).read (Elt F) fs) Finset.univ = fs := by
    show (View.whole cc0_scratch10).write (Elt F) fd ((View.whole cc0_scratch9).read (Elt F) fs) Finset.univ = fs
    rw [View.read_whole]; exact View.write_whole_univ _ _ _
  have hp₁ : (((cL.view).loc (c : Thread nD τ)) ↦[(cL.view).set]{qSent} fs : sProp 𝕄) ⊢ dmaPay A c (xSend 0).val := by
    rw [e₁, dmaPay_xSend]; unfold xSendPay cLPts; iintro H; iexists fs; iexact H
  have hp₂ : (((cR.view).loc (peer 0 c : Thread nD τ)) ↦[(cR.view).set]{fullShare} ((cR.view).write (Elt F) fd ((cL.view).read (Elt F) fs) Finset.univ) : sProp 𝕄)
      ⊢ dmaPay A (peer 0 c) (xRecv 0).val := by
    rw [e₂, ew, dmaPay_xRecv]; unfold xRecvPay cRPts; iintro H
    iexists fs
    isplitr; · ipureintro; rw [peer_peer]; exact hfs
    iexact H
  have h₁ : 10 ≤ (xSend 0).val := by rw [xSend_val]; omega
  have h₂ : 10 ≤ (xRecv 0).val := by rw [xRecv_val]; omega
  have h := wp_send A (Kt := Kt) (k := k) (W := W) (src := cL) (dst := cR) (sS := xSend 0) (sR := xRecv 0) (N := NX) (hsc := hsc) (hsrc := hsrc) (hdst := hdst)
    (hsem := hsem) c n 0 hn 7 rfl h₁ h₂ (dmaAmt_xSend 0) (dmaAmt_xRecv 0) rfl qSent fs fd hp₁ hp₂
  rw [e₁, e₂] at h
  exact h

/-- The transfer of the own up-projection blocks to the device across `x`. -/
theorem wp_send_k {α : Type} {Kt : α → sProp 𝕄} {k : PUnit.{1} → Prog (TpuEff nD τ sig (Elt F) Λ₀ .tc) α}
    (c n : Dev nD) (hn : n = peer 0 c)
    {hsc : kR.view.ref.isScScratch = false} {hsrc : kL.view.WordExact} {hdst : kR.view.WordExact}
    {hsem : DmaTarget.Typed .vmem (.dma (xRecv 1)) (.remote (Dev.tc n : Thread nD τ)
      (kR : Memref sig (Dev.tc n : Thread nD τ).2.kind .vmem S2x64x256 .bf16) (.dma (xSend 1)) hsc)}
    (fs : S2x64x256.Idx → Elt F .bf16) (hfs : HoldsK A c fs) (fd : S2x64x256.Idx → Elt F .bf16) {W : Waits sig Unit} :
    iprop(sendR A c (.dma (xSend 1)) 0 (.dma (xRecv 1)) ∗ kLPts c qSent fs ∗ kRPts (peer 0 c) fd ∗ owes (c : Thread nD τ) (owe c 7) W)
      ⊢ iprop(((cred (tallyAt (cell c (.dma (xSend 1))) () NK) ∗ owes (c : Thread nD τ) (owe c 6) W)
            -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma kL (.remote (Dev.tc n : Thread nD τ) kR (.dma (xSend 1)) hsc) (.dma (xRecv 1)) hsrc hdst hsem) k) Kt) := by
  have e₁ : (kL.view).set = Finset.univ := View.set_whole cc0_scratch11
  have e₂ : (kR.view).set = Finset.univ := View.set_whole cc0_scratch12
  have ew : (kR.view).write (Elt F) fd ((kL.view).read (Elt F) fs) Finset.univ = fs := by
    show (View.whole cc0_scratch12).write (Elt F) fd ((View.whole cc0_scratch11).read (Elt F) fs) Finset.univ = fs
    rw [View.read_whole]; exact View.write_whole_univ _ _ _
  have hp₁ : (((kL.view).loc (c : Thread nD τ)) ↦[(kL.view).set]{qSent} fs : sProp 𝕄) ⊢ dmaPay A c (xSend 1).val := by
    rw [e₁, dmaPay_xSend]; unfold xSendPay kLPts; iintro H; iexists fs; iexact H
  have hp₂ : (((kR.view).loc (peer 0 c : Thread nD τ)) ↦[(kR.view).set]{fullShare} ((kR.view).write (Elt F) fd ((kL.view).read (Elt F) fs) Finset.univ) : sProp 𝕄)
      ⊢ dmaPay A (peer 0 c) (xRecv 1).val := by
    rw [e₂, ew, dmaPay_xRecv]; unfold xRecvPay kRPts; iintro H
    iexists fs
    isplitr; · ipureintro; rw [peer_peer]; exact hfs
    iexact H
  have h₁ : 10 ≤ (xSend 1).val := by rw [xSend_val]; omega
  have h₂ : 10 ≤ (xRecv 1).val := by rw [xRecv_val]; omega
  have h := wp_send A (Kt := Kt) (k := k) (W := W) (src := kL) (dst := kR) (sS := xSend 1) (sR := xRecv 1) (N := NK) (hsc := hsc) (hsrc := hsrc) (hdst := hdst)
    (hsem := hsem) c n 0 hn 6 rfl h₁ h₂ (dmaAmt_xSend 1) (dmaAmt_xRecv 1) rfl qSent fs fd hp₁ hp₂
  rw [e₁, e₂] at h
  exact h

end Cert.Mla

end
-- ==== Proof.Values.lean ====
/-
# The values a device computes

From the eight arguments of every device, what each device stores, sends and returns: its latent blocks, its blocks of
the two up-projections, queries, keys and values of its four heads, the four heads' outputs side by side, and the
output projection over the four groups of heads.
-/
module

public import proofs.«01_k».proof.Proof.Protocol

@[expose] public section

noncomputable section

namespace Cert.Mla

open Cert.KernelIdeal Cert.KernelIdeal.Gen

open Idealize.ShloMosaic
open Idealize.ShloMosaic.TcCoe
open Idealize.SL Idealize.SL.RA Idealize.SL.BI

variable {F : FTy → Type} [FloatOps F]

/-- One device's arguments. -/
structure Args (F : FTy → Type) where
  x : S2x256x1024.Idx → Elt F .f32
  wdkv : S1024x64.Idx → Elt F .f32
  wuk : S64x1024.Idx → Elt F .f32
  wuv : S64x1024.Idx → Elt F .f32
  wq : S1024x1024.Idx → Elt F .f32
  wqr : S1024x512.Idx → Elt F .f32
  wkr : S1024x32.Idx → Elt F .f32
  wo : S1024x1024.Idx → Elt F .f32

/-! ## The boxes -/

theorem xbox_inb (b : Fin 2) : ∀ a, (![b.val, 0, 0] : Fin 3 → Nat) a + S1x256x1024.size a ≤ S2x256x1024.size a := by revert b; decide
/-- Batch row `b` of the input and of the output. -/
abbrev xbox (b : Fin 2) : Rect S2x256x1024 := Rect.unit (s := S2x256x1024) ![b.val, 0, 0] S1x256x1024.size (xbox_inb b)
/-- The own columns of an up-projection, of the query projection, of the rotary query projection. -/
abbrev ubox (c : Dev nD) : Rect S64x1024 := Rect.unit (s := S64x1024) (k0_off1 c) S64x256.size (k0_off1_inb c)
abbrev qbox (c : Dev nD) : Rect S1024x1024 := Rect.unit (s := S1024x1024) (k0_off2 c) S1024x256.size (k0_off2_inb c)
abbrev rbox (c : Dev nD) : Rect S1024x512 := Rect.unit (s := S1024x512) (k0_off3 c) S1024x128.size (k0_off3_inb c)
theorem wbox_inb (c : Dev nD) (j : Fin 4) : ∀ a, ((match j with | 0 => k0_off4 c | 1 => k0_off5 c | 2 => k0_off6 c | 3 => k0_off7 c) : Fin 2 → Nat) a
    + S256x1024.size a ≤ S1024x1024.size a := by
  match j with
  | 0 => exact k0_off4_inb c
  | 1 => exact k0_off5_inb c
  | 2 => exact k0_off6_inb c
  | 3 => exact k0_off7_inb c
/-- The rows of the output projection: the own group of heads (0), then those of the peers across `y`, `z`, both. -/
abbrev wbox (c : Dev nD) (j : Fin 4) : Rect S1024x1024 :=
  Rect.unit (s := S1024x1024) (match j with | 0 => k0_off4 c | 1 => k0_off5 c | 2 => k0_off6 c | 3 => k0_off7 c) S256x1024.size (wbox_inb c j)

/-! ## One head -/

/-- One head's attention from its queries, keys, values, rotary queries and the shared rotary keys. -/
def attn (q k v : FVec F S256x64 .bf16) (qr kr : FVec F S256x32 .bf16) : FVec F S256x64 .bf16 :=
  let s := mulf (addf (matmul dot_S256x64_S256x64_S256x256_1_1_0_0_n_n none q k (constant S256x256 .f32 0x00000000#32))
      (matmul dot_S256x32_S256x32_S256x256_1_1_0_0_n_n none qr kr (constant S256x256 .f32 0x00000000#32)))
    (broadcast S256x256 (Scalar.ofBits (F := F) .f32 0x3DD105EC#32))
  let m := multiReduction .maximumf [1] S256 s 0xFF800000#32 reduces_S256x256_S256 (.inl rfl) rfl
  let e := exp (subf s (broadcastTo S256x256 (shapeCast S256x1 m shapeCasts_S256_S256x1) broadcasts_S256x1_S256x256))
  let l := multiReduction .add [1] S256 e 0x00000000#32 reduces_S256x256_S256 (.inl rfl) rfl
  let p := divf e (broadcastTo S256x256 (shapeCast S256x1 l shapeCasts_S256_S256x1) broadcasts_S256x1_S256x256)
  truncf .bf16 (matmul dot_S256x256_S256x64_S256x64_1_0_0_1_n_n none (truncf .bf16 p bitsLt_bf16_f32) v (constant S256x64 .f32 0x00000000#32))
    bitsLt_bf16_f32

theorem slices64 (h : Fin 4) : S256x256.Slices ![0, 64 * h.val] S256x64 := by revert h; decide
theorem slices32 (h : Fin 4) : S256x128.Slices ![0, 32 * h.val] S256x32 := by revert h; decide

/-- Head `h` of a device's four. -/
def headAt (h : Fin 4) (q k v : FVec F S256x256 .bf16) (qr : FVec F S256x128 .bf16) (kr : FVec F S256x32 .bf16) : FVec F S256x64 .bf16 :=
  attn (extractStridedSlice S256x64 ![0, 64 * h.val] q (slices64 h)) (extractStridedSlice S256x64 ![0, 64 * h.val] k (slices64 h))
    (extractStridedSlice S256x64 ![0, 64 * h.val] v (slices64 h)) (extractStridedSlice S256x32 ![0, 32 * h.val] qr (slices32 h)) kr

variable (I : Dev nD → Args F)

/-! ## What a device sends across `x` -/

def xB (c : Dev nD) (b : Fin 2) : Vec F S1x256x1024 .f32 := fun i => (I c).x ((xbox b).emb i)
def latent (c : Dev nD) (b : Fin 2) : Vec F S1x256x64 .bf16 := k0_pay4 (k0_pay1 (I c).wdkv) (xB I c b)
def upK (c : Dev nD) : Vec F S1x64x256 .bf16 := k0_pay2 fun i => (I c).wuk ((ubox c).emb i)
def upV (c : Dev nD) : Vec F S1x64x256 .bf16 := k0_pay3 fun i => (I c).wuv ((ubox c).emb i)

/-! ## Queries, keys, values -/

def wqT (c : Dev nD) : Vec F S1024x256 .f32 := fun i => (I c).wq ((qbox c).emb i)
def wqrT (c : Dev nD) : Vec F S1024x128 .f32 := fun i => (I c).wqr ((rbox c).emb i)
def qB (c : Dev nD) (b : Fin 2) : FVec F S256x256 .bf16 := k0_pay10 (wqT I c) (xB I c b)
def qrB (c : Dev nD) (b : Fin 2) : FVec F S256x128 .bf16 := k0_pay11 (wqrT I c) (xB I c b)
def krB (c : Dev nD) (b : Fin 2) : FVec F S256x32 .bf16 := k0_pay12 (I c).wkr (xB I c b)
def kB (c : Dev nD) (b : Fin 2) : FVec F S256x256 .bf16 := k0_pay21 (k0_pay13 (latent I c b) (upK I c)) (latent I (peer 0 c) b) (upK I (peer 0 c))
def vB (c : Dev nD) (b : Fin 2) : FVec F S256x256 .bf16 := k0_pay22 (k0_pay14 (latent I c b) (upV I c)) (latent I (peer 0 c) b) (upV I (peer 0 c))

/-- Head `h`'s output. -/
def headB (c : Dev nD) (b : Fin 2) (h : Fin 4) : FVec F S256x64 .bf16 := headAt h (qB I c b) (kB I c b) (vB I c b) (qrB I c b) (krB I c b)

/-- The place of an output column inside its head. -/
def inHead (i : S256x256.Idx) : S256x64.Idx := fun a => match a with
  | ⟨0, _⟩ => ⟨(i 0).val, (i 0).isLt⟩
  | ⟨1, _⟩ => ⟨(i 1).val % 64, Nat.mod_lt _ (by decide)⟩

/-- The four heads side by side. -/
def headsB (c : Dev nD) (b : Fin 2) : Vec F S256x256 .bf16 := fun i =>
  headB I c b ⟨(i 1).val / 64, Nat.div_lt_of_lt_mul (show (i 1).val < 64 * 4 from (i 1).isLt)⟩ (inHead i)

/-- What the devices exchange. -/
def vals : Vals F where
  cv := latent I
  kv c := fun | 0 => upK I c | 1 => upV I c
  ov := headsB I

/-! ## The output projection -/

theorem casts_o : S256x256.ShapeCasts S1x1x256x256 := by decide
/-- A group's heads as they are read: with two leading axes of length 1. -/
def oBox (v : Vec F S256x256 .bf16) : Vec F S1x1x256x256 .bf16 := shapeCast S1x1x256x256 v casts_o
def woT (c : Dev nD) (j : Fin 4) : Vec F S256x1024 .f32 := fun i => (I c).wo ((wbox c j).emb i)

/-- The output so far: over the own group, then also those of the peers across `y`, `z`, both. -/
def out0 (c : Dev nD) (b : Fin 2) : Vec F S1x256x1024 .f32 := k0_pay43 (oBox (headsB I c b)) (woT I c 0)
def out1 (c : Dev nD) (b : Fin 2) : Vec F S1x256x1024 .f32 := k0_pay48 (k0_pay45 (woT I c 1)) (out0 I c b) (oBox (headsB I (peer 1 c) b))
def out2 (c : Dev nD) (b : Fin 2) : Vec F S1x256x1024 .f32 := k0_pay48 (k0_pay45 (woT I c 2)) (out1 I c b) (oBox (headsB I (peer 2 c) b))
def out3 (c : Dev nD) (b : Fin 2) : Vec F S1x256x1024 .f32 := k0_pay48 (k0_pay45 (woT I c 3)) (out2 I c b) (oBox (headsB I (peer 3 c) b))

/-- The place of an output element in its batch row. -/
def inRow (i : S2x256x1024.Idx) : S1x256x1024.Idx := fun a => match a with
  | ⟨0, _⟩ => ⟨0, Nat.one_pos⟩
  | ⟨1, _⟩ => ⟨(i 1).val, (i 1).isLt⟩
  | ⟨2, _⟩ => ⟨(i 2).val, (i 2).isLt⟩

/-- What a device returns. -/
def outC (c : Dev nD) : S2x256x1024.Idx → Elt F .f32 := fun i => out3 I c (i 0) (inRow i)

/-! ## The same values, as each step of the body writes them -/

omit I in
theorem pay5_eq (w : FVec F S1024x64 .bf16) (x : Vec F S1x256x1024 .f32) : k0_pay5 w x = k0_pay4 w x := rfl
omit I in
theorem pay16_eq (w : Vec F S1024x256 .f32) (x : Vec F S1x256x1024 .f32) : k0_pay16 (k0_pay6 w) x = k0_pay10 w x := rfl
omit I in
theorem pay17_eq (w : Vec F S1024x128 .f32) (x : Vec F S1x256x1024 .f32) : k0_pay17 (k0_pay7 w) x = k0_pay11 w x := rfl
omit I in
theorem pay18_eq (w : Vec F S1024x32 .f32) (x : Vec F S1x256x1024 .f32) : k0_pay18 (k0_pay8 w) x = k0_pay12 w x := rfl
omit I in
theorem pay19_eq (l : Vec F S1x256x64 .bf16) (w : Vec F S1x64x256 .bf16) : k0_pay19 l w = k0_pay13 l w := rfl
omit I in
theorem pay20_eq (l : Vec F S1x256x64 .bf16) (w : Vec F S1x64x256 .bf16) : k0_pay20 l w = k0_pay14 l w := rfl
omit I in
theorem pay33_eq (a : FVec F S256x256 .f32) (l : Vec F S1x256x64 .bf16) (w : Vec F S1x64x256 .bf16) : k0_pay33 a (k0_pay32 l) w = k0_pay21 a l w := rfl
omit I in
theorem pay34_eq (a : FVec F S256x256 .f32) (l : Vec F S1x256x64 .bf16) (w : Vec F S1x64x256 .bf16) : k0_pay34 a l w = k0_pay22 a l w := rfl

section Heads
variable (q k v : FVec F S256x256 .bf16) (qr : FVec F S256x128 .bf16) (kr : FVec F S256x32 .bf16)

/-- A head's output as it is stored: with two leading axes of length 1. -/
def hBox (v : FVec F S256x64 .bf16) : Vec F S1x1x256x64 .bf16 := shapeCast S1x1x256x64 v shapeCasts_S256x64_S1x1x256x64

omit I in
theorem head0_eq (a : FVec F S256x256 .f32) (l : Vec F S1x256x64 .bf16) (w : Vec F S1x64x256 .bf16) :
    k0_pay25 qr kr v (k0_pay23 q) (k0_pay24 a l w) = hBox (headAt 0 q (k0_pay21 a l w) v qr kr) := rfl
omit I in
theorem head1_eq : k0_pay27 (k0_pay26 q qr kr k v) = hBox (headAt 1 q k v qr kr) := rfl
omit I in
theorem head2_eq : k0_pay28 q qr kr k v = hBox (headAt 2 q k v qr kr) := rfl
omit I in
theorem head3_eq : k0_pay31 (k0_pay29 v) (k0_pay30 q qr kr k) = hBox (headAt 3 q k v qr kr) := rfl

omit I in
theorem head0'_eq (a a' : FVec F S256x256 .f32) (l l' : Vec F S1x256x64 .bf16) (w w' : Vec F S1x64x256 .bf16) :
    k0_pay35 q qr kr a a' (k0_pay32 l) w l' w' = hBox (headAt 0 q (k0_pay21 a l w) (k0_pay22 a' l' w') qr kr) := rfl
omit I in
theorem head1'_eq (a a' : FVec F S256x256 .f32) (l l' : Vec F S1x256x64 .bf16) (w w' : Vec F S1x64x256 .bf16) :
    k0_pay39 kr (k0_pay36 a' l' w') (k0_pay37 qr) (k0_pay38 q a (k0_pay32 l) w) = hBox (headAt 1 q (k0_pay21 a l w) (k0_pay22 a' l' w') qr kr) := rfl
omit I in
theorem head2'_eq : k0_pay41 (k0_pay40 q qr kr k v) = hBox (headAt 2 q k v qr kr) := rfl
omit I in
theorem head3'_eq : k0_pay42 q qr kr k v = hBox (headAt 3 q k v qr kr) := rfl

end Heads

section Out
variable (w : Vec F S256x1024 .f32) (a : Vec F S1x256x1024 .f32) (o : Vec F S1x1x256x256 .bf16)
omit I in
theorem pay44_eq : k0_pay44 o w = k0_pay43 o w := rfl
omit I in
theorem pay47_eq : k0_pay47 (k0_pay45 w) (k0_pay46 a) o = k0_pay48 (k0_pay45 w) a o := rfl
omit I in
theorem pay50_eq : k0_pay50 (k0_pay49 w) a o = k0_pay48 (k0_pay45 w) a o := rfl
omit I in
theorem pay51_eq : k0_pay51 (k0_pay49 w) a o = k0_pay48 (k0_pay45 w) a o := rfl
omit I in
theorem pay54_eq : k0_pay54 (k0_pay53 (k0_pay52 w) a o) = k0_pay48 (k0_pay45 w) a o := rfl
omit I in
theorem pay56_eq : k0_pay56 (k0_pay52 w) (k0_pay55 a) o = k0_pay48 (k0_pay45 w) a o := rfl
end Out

end Cert.Mla

end
-- ==== Proof.Holds.lean ====
/-
# What a buffer holds

A buffer's contents after the copy into it, after the stores that fill it block by block, and how its share is lent to a
transfer and comes back.
-/
module

public import proofs.«01_k».proof.Proof.Moves
public import proofs.«01_k».proof.Proof.Values

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading what was written -/

/-- A block read from a buffer that a copy filled is that block of the copied contents. -/
theorem read_copied (b : Ref sig .tc) (r : Rect b.ty.shape) (s w : b.ty.Contents (Elt F)) :
    (Memref.whole b).view.readAt (Elt F) r.toLoadRect ((Memref.whole b).view.write (Elt F) s w Finset.univ) = fun i => w (r.emb i) := by
  have e : (Memref.whole b).view.write (Elt F) s w Finset.univ = w := View.write_whole_univ _ _ _
  rw [e]; rfl

/-- The same of the whole buffer. -/
theorem read_copied_all (b : Ref sig .tc) (off : Fin b.ty.shape.rank → ℕ) (h : ∀ a, off a = 0) (inb) (s w : b.ty.Contents (Elt F)) :
    (Memref.whole b).view.readAt (Elt F) (Rect.unit off b.ty.shape.size inb).toLoadRect ((Memref.whole b).view.write (Elt F) s w Finset.univ) = w := by
  rw [read_copied]
  funext i
  exact congrArg w (funext fun a => Fin.ext (show off a + 1 * (i a).val = (i a).val by rw [h a]; omega))

/-- Of two stores, the later one's block holds what it stored. -/
theorem stored_last (b : Ref sig .tc) (f : b.ty.Contents (Elt F)) (r : Rect b.ty.shape) (w : r.shape.Idx → Elt F b.ty.elt)
    (K : List (View.Piece (Elt F) b.ty.shape b.ty.elt)) (x : r.shape.Idx) :
    (Memref.whole b).view.writes (Elt F) f (⟨r, w⟩ :: K) (r.emb x) = w x :=
  View.read_writes_cons_emb (View.whole b) f r w K x

/-- A later store leaves the blocks it doesn't meet. -/
theorem stored_before (b : Ref sig .tc) (f : b.ty.Contents (Elt F)) (r : Rect b.ty.shape) (w : r.shape.Idx → Elt F b.ty.elt)
    (K : List (View.Piece (Elt F) b.ty.shape b.ty.elt)) (y : b.ty.shape.Idx) (h : y ∉ r.set) :
    (Memref.whole b).view.writes (Elt F) f (⟨r, w⟩ :: K) y = (Memref.whole b).view.writes (Elt F) f K y := by
  have h' := View.read_slice_write_of_not_mem (v := View.whole b) r ((Memref.whole b).view.writes (Elt F) f K) w Finset.univ
    (by rw [Rect.map_emb_univ]; exact h)
  exact h'

omit [FloatOps F] in
/-- Contents may be forgotten but for a property of them. -/
theorem holding {ℓ : Loc nD τ sig} {S : Finset (Idx ℓ)} {q : PosShare TreeShare} {f : Buf (Elt F) ℓ} (P : Buf (Elt F) ℓ → Prop) (h : P f) :
    (ℓ ↦[S]{q} f : sProp 𝕄) ⊢ iprop(∃ g, ⌜P g⌝ ∗ ℓ ↦[S]{q} g) := by
  iintro H; iexists f
  isplitr; · ipureintro; exact h
  iexact H

/-! ## Lending a share -/

omit [FloatOps F] in
theorem lend {ℓ : Loc nD τ sig} {S : Finset (Idx ℓ)} {q : PosShare TreeShare} {f : Buf (Elt F) ℓ} :
    (ℓ ↦[S]{q} f : sProp 𝕄) ⊢ iprop((ℓ ↦[S]{q.left} f) ∗ ℓ ↦[S]{q.right} f) := (pointsTo_share (PosShare.mem_left_op_right q)).1

omit [FloatOps F] in
theorem regain {ℓ : Loc nD τ sig} {S : Finset (Idx ℓ)} {q : PosShare TreeShare} {f g : Buf (Elt F) ℓ} :
    iprop((ℓ ↦[S]{q.left} f) ∗ ℓ ↦[S]{q.right} g) ⊢ (ℓ ↦[S]{q} g : sProp 𝕄) := by
  iintro ⟨Hf, Hg⟩
  ihave H := (persistent_entails_right (pointsTo_agree (ℓ := ℓ) (I := S) (J := S) (q₁ := q.left) (q₂ := q.right) (f := f) (g := g))) $$ [Hf Hg]
  · isplitl [Hf] <;> iassumption
  icases H with ⟨%h, Hf, Hg⟩
  have e : (ℓ ↦[S]{q.left} f : sProp 𝕄) = ℓ ↦[S]{q.left} g := pointsTo_congr fun i hi => (h i (Finset.mem_inter.mpr ⟨hi, hi⟩)).1
  have hb : iprop((ℓ ↦[S]{q.left} g) ∗ ℓ ↦[S]{q.right} g) ⊢ (ℓ ↦[S]{q} g : sProp 𝕄) := (pointsTo_share (PosShare.mem_left_op_right q)).2
  iapply hb
  isplitl [Hf]
  · irw [← e]; iexact Hf
  iexact Hg

/-! ## The buffers of the exchange across `x` -/

/-- A whole buffer of the device, at share `q` and given contents. -/
abbrev heldAt (c : Dev nD) (b : Ref sig .tc) (q : PosShare TreeShare) (f : Buf (Elt F) ((Memref.whole b).view.loc (c : Thread nD τ))) : sProp 𝕄 :=
  (Memref.whole b).view.loc (c : Thread nD τ) ↦[Finset.univ]{q} f
abbrev held (c : Dev nD) (b : Ref sig .tc) (f : Buf (Elt F) ((Memref.whole b).view.loc (c : Thread nD τ))) : sProp 𝕄 := heldAt c b fullShare f

variable (A : Vals F)

/-- After the stores of both latent blocks the buffer holds them. -/
theorem holdsC_stored (c : Dev nD) (f : S2x256x64.Idx → Elt F .bf16) (w₀ w₁ : S1x256x64.Idx → Elt F .bf16) (h₀ : w₀ = A.cv c 0) (h₁ : w₁ = A.cv c 1) :
    HoldsC A c ((Memref.whole cc0_scratch9).view.writes (Elt F) f [⟨Rect.unit ![1, 0, 0] S1x256x64.size inb_S2x256x64_S1x256x64_1_0_0, w₁⟩, ⟨Rect.unit ![0, 0, 0] S1x256x64.size inb_S2x256x64_S1x256x64_0_0_0, w₀⟩]) := by
  intro b x
  match b with
  | 0 =>
    have h : (cbox 0).emb x ∉ (cbox 1).set := fun hm => by
      have h₁ : 1 ≤ 0 + 1 * (x 0).val := (Rect.mem_set_unit.mp hm 0).1
      have h₂ : (x 0).val < 1 := (x 0).isLt
      omega
    exact ((stored_before cc0_scratch9 f (cbox 1) w₁ [⟨cbox 0, w₀⟩] _ h).trans (stored_last cc0_scratch9 f (cbox 0) w₀ [] x)).trans (congrFun h₀ x)
  | 1 => exact (stored_last cc0_scratch9 f (cbox 1) w₁ [⟨cbox 0, w₀⟩] x).trans (congrFun h₁ x)

/-- After the stores of both up-projection blocks the buffer holds them. -/
theorem holdsK_stored (c : Dev nD) (f : S2x64x256.Idx → Elt F .bf16) (w₀ w₁ : S1x64x256.Idx → Elt F .bf16) (h₀ : w₀ = A.kv c 0) (h₁ : w₁ = A.kv c 1) :
    HoldsK A c ((Memref.whole cc0_scratch11).view.writes (Elt F) f [⟨Rect.unit ![1, 0, 0] S1x64x256.size inb_S2x64x256_S1x64x256_1_0_0, w₁⟩, ⟨Rect.unit ![0, 0, 0] S1x64x256.size inb_S2x64x256_S1x64x256_0_0_0, w₀⟩]) := by
  intro b x
  match b with
  | 0 =>
    have h : (kbox 0).emb x ∉ (kbox 1).set := fun hm => by
      have h₁ : 1 ≤ 0 + 1 * (x 0).val := (Rect.mem_set_unit.mp hm 0).1
      have h₂ : (x 0).val < 1 := (x 0).isLt
      omega
    exact ((stored_before cc0_scratch11 f (kbox 1) w₁ [⟨kbox 0, w₀⟩] _ h).trans (stored_last cc0_scratch11 f (kbox 0) w₀ [] x)).trans (congrFun h₀ x)
  | 1 => exact (stored_last cc0_scratch11 f (kbox 1) w₁ [⟨kbox 0, w₀⟩] x).trans (congrFun h₁ x)

/-- The latent buffer, ready to be sent: half its share goes with the transfer. -/
theorem cL_ready (c : Dev nD) (f : S2x256x64.Idx → Elt F .bf16) (h : HoldsC A c f) :
    (held c cc0_scratch9 f : sProp 𝕄) ⊢ iprop(∃ g, ⌜HoldsC A c g⌝ ∗ cLPts c qSent g ∗ heldAt c cc0_scratch9 qKept g) := by
  refine BIBase.Entails.trans lend ?_
  iintro ⟨Hs, Hk⟩
  iexists f
  isplitr; · ipureintro; exact h
  isplitl [Hs]
  · unfold cLPts; iexact Hs
  iexact Hk
theorem kL_ready (c : Dev nD) (f : S2x64x256.Idx → Elt F .bf16) (h : HoldsK A c f) :
    (held c cc0_scratch11 f : sProp 𝕄) ⊢ iprop(∃ g, ⌜HoldsK A c g⌝ ∗ kLPts c qSent g ∗ heldAt c cc0_scratch11 qKept g) := by
  refine BIBase.Entails.trans lend ?_
  iintro ⟨Hs, Hk⟩
  iexists f
  isplitr; · ipureintro; exact h
  isplitl [Hs]
  · unfold kLPts; iexact Hs
  iexact Hk

omit [FloatOps F] in
/-- After the transfer the buffer is whole again. -/
theorem cL_back (c : Dev nD) (g : S2x256x64.Idx → Elt F .bf16) :
    iprop((∃ f, cLPts c qSent f) ∗ heldAt c cc0_scratch9 qKept g) ⊢ (held c cc0_scratch9 g : sProp 𝕄) := by
  iintro ⟨⟨%f, Hs⟩, Hk⟩
  iapply (regain (f := f) (g := g))
  isplitl [Hs]
  · unfold cLPts; iexact Hs
  iexact Hk
omit [FloatOps F] in
theorem kL_back (c : Dev nD) (g : S2x64x256.Idx → Elt F .bf16) :
    iprop((∃ f, kLPts c qSent f) ∗ heldAt c cc0_scratch11 qKept g) ⊢ (held c cc0_scratch11 g : sProp 𝕄) := by
  iintro ⟨⟨%f, Hs⟩, Hk⟩
  iapply (regain (f := f) (g := g))
  isplitl [Hs]
  · unfold kLPts; iexact Hs
  iexact Hk

omit [FloatOps F] in
theorem cR_held (c : Dev nD) (f : S2x256x64.Idx → Elt F .bf16) : (cRPts c f : sProp 𝕄) ⊢ held c cc0_scratch10 f := by
  unfold cRPts; iintro H; iexact H
omit [FloatOps F] in
theorem kR_held (c : Dev nD) (f : S2x64x256.Idx → Elt F .bf16) : (kRPts c f : sProp 𝕄) ⊢ held c cc0_scratch12 f := by
  unfold kRPts; iintro H; iexact H

end Cert.Mla

end
-- ==== Proof.Slots.lean ====
/-
# The windows of the attention outputs

The eight windows of the output buffer, as the body's loads and stores name them and as the transfers do; what a window
holds after the four heads are stored in it; a window's share dealt over the three transfers out of it.
-/
module

public import proofs.«01_k».proof.Proof.Holds
public import Idealize.ShloMosaic.Lib.Pipeline.Value
public import Idealize.ShloMosaic.Lib.ValueLayout

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix4)

variable {F : FTy → Type} [FloatOps F]

local notation "𝕄" => MT nD τ sig Unit (Elt F) ℕ UU ℕ

/-- The window of the output buffer at the given offsets, as a load or a store names it. -/
abbrev winAt (c : Dev nD) (off : Fin 4 → ℕ) (inb : ∀ a, off a + S1x1x256x256.size a ≤ S4x2x256x256.size a) (q : PosShare TreeShare)
    (f : Buf (Elt F) ((Memref.whole cc0_scratch13).view.loc (c : Thread nD τ))) : sProp 𝕄 :=
  (Memref.whole cc0_scratch13).view.loc (c : Thread nD τ) ↦[(Memref.whole cc0_scratch13).view.setOn
    (Rect.unit (s := S4x2x256x256) off S1x1x256x256.size inb).set]{q} f

omit [FloatOps F] in
theorem slot_eq_win (c : Dev nD) (j : Fin 4) (b : Fin 2) (off : Fin 4 → ℕ) (inb) (h : off = ![j.val, b.val, 0, 0]) (q : PosShare TreeShare)
    (f : S4x2x256x256.Idx → Elt F .bf16) : (slotPts c j b q f : sProp 𝕄) = winAt c off inb q f := by
  subst h
  unfold slotPts
  have e : (slot j b).view.set = (Memref.whole cc0_scratch13).view.setOn (Rect.unit (s := S4x2x256x256) ![j.val, b.val, 0, 0] S1x1x256x256.size inb).set := by
    exact (View.set_reshape _ _).trans (View.set_slice _ _)
  rw [e]

omit [FloatOps F] in
/-- A window of the transfers as a window of the loads and stores; and back. -/
theorem win_of_slot (c : Dev nD) (j : Fin 4) (b : Fin 2) (off : Fin 4 → ℕ) (inb) (h : off = ![j.val, b.val, 0, 0]) (q : PosShare TreeShare)
    (f : S4x2x256x256.Idx → Elt F .bf16) : (slotPts c j b q f : sProp 𝕄) ⊢ winAt c off inb q f := by
  rw [slot_eq_win c j b off inb h]
omit [FloatOps F] in
theorem slot_of_win (c : Dev nD) (j : Fin 4) (b : Fin 2) (off : Fin 4 → ℕ) (inb) (h : off = ![j.val, b.val, 0, 0]) (q : PosShare TreeShare)
    (f : S4x2x256x256.Idx → Elt F .bf16) : (winAt c off inb q f : sProp 𝕄) ⊢ slotPts c j b q f := by
  rw [slot_eq_win c j b off inb h]

theorem casts_w : S1x1x256x256.ShapeCasts S256x256 := by decide

/-- What a load of the whole window reads is what the transfers move, with two leading axes of length 1. -/
theorem load_win (j : Fin 4) (b : Fin 2) (off : Fin 4 → ℕ) (inb) (h : off = ![j.val, b.val, 0, 0]) (f : S4x2x256x256.Idx → Elt F .bf16)
    (v : Vec F S256x256 .bf16) (hv : (slot j b).view.read (Elt F) f = v) :
    (Memref.whole cc0_scratch13).view.readAt (Elt F) (Rect.unit (s := S4x2x256x256) off S1x1x256x256.size inb).toLoadRect f = oBox v := by
  subst h hv
  have e : (slot j b).view.read (Elt F) f = shapeCast S256x256 ((Memref.whole cc0_scratch13).view.readAt (Elt F)
      (Rect.unit (s := S4x2x256x256) ![j.val, b.val, 0, 0] S1x1x256x256.size inb).toLoadRect f) casts_w := rfl
  rw [e]
  funext i
  unfold oBox shapeCast
  rw [Shape.reshapeEquiv_reshapeEquiv, Shape.reshapeEquiv_self]

theorem hbox_inb (b : Fin 2) (h : Fin 4) : ∀ a, (![3, b.val, 0, 64 * h.val] : Fin 4 → Nat) a + S1x1x256x64.size a ≤ S4x2x256x256.size a := by
  revert b h; decide
/-- Where head `h` of batch row `b` is stored. -/
abbrev hbox (b : Fin 2) (h : Fin 4) : Rect S4x2x256x256 := Rect.unit (s := S4x2x256x256) ![3, b.val, 0, 64 * h.val] S1x1x256x64.size (hbox_inb b h)

/-- An index of the output buffer inside its window. -/
def inWin (i : S4x2x256x256.Idx) : S256x256.Idx := fun a => match a with
  | ⟨0, _⟩ => ⟨(i 2).val, (i 2).isLt⟩
  | ⟨1, _⟩ => ⟨(i 3).val, (i 3).isLt⟩

variable (I : Dev nD → Args F)

theorem head_piece (c : Dev nD) (b : Fin 2) (h : Fin 4) (x : (hbox b h).shape.Idx) :
    hBox (headB I c b h) x = headsB I c b (inWin ((hbox b h).emb x)) := by
  have h0 : (x 0).val < 1 := (x 0).isLt
  have h1 : (x 1).val < 1 := (x 1).isLt
  have h3 : (x 3).val < 64 := (x 3).isLt
  have e3 : ((inWin ((hbox b h).emb x)) 1).val = 64 * h.val + (x 3).val := by
    show 64 * h.val + 1 * (x 3).val = _; omega
  have e2 : ((inWin ((hbox b h).emb x)) 0).val = (x 2).val := by
    show 0 + 1 * (x 2).val = _; omega
  unfold headsB
  have eh : (⟨((inWin ((hbox b h).emb x)) 1).val / 64, Nat.div_lt_of_lt_mul (show ((inWin ((hbox b h).emb x)) 1).val < 64 * 4 from ((inWin ((hbox b h).emb x)) 1).isLt)⟩ : Fin 4) = h :=
    Fin.ext (show ((inWin ((hbox b h).emb x)) 1).val / 64 = h.val by rw [e3]; omega)
  rw [eh]
  refine shapeCast_apply _ _ _ _ ?_
  have g0 : (inHead (inWin ((hbox b h).emb x)) 0).val = (x 2).val := e2
  have g1 : (inHead (inWin ((hbox b h).emb x)) 1).val = (x 3).val := by
    show ((inWin ((hbox b h).emb x)) 1).val % 64 = _; rw [e3]; omega
  rw [Shape.rowMajor_val_two, Shape.rowMajor_val_four]
  show (inHead (inWin ((hbox b h).emb x)) 0).val * 64 + (inHead (inWin ((hbox b h).emb x)) 1).val
    = (((x 0).val * 1 + (x 1).val) * 256 + (x 2).val) * 64 + (x 3).val
  rw [g0, g1]; omega

/-- The place of an index of window `(j,b)` in the output buffer. -/
def place (j : Fin 4) (b : Fin 2) (y : S256x256.Idx) : S4x2x256x256.Idx :=
  ix4 j b (⟨(y 0).val, (y 0).isLt⟩ : Fin 256) (⟨(y 1).val, (y 1).isLt⟩ : Fin 256)

omit [FloatOps F] in
theorem slot_read (j : Fin 4) (b : Fin 2) (g : S4x2x256x256.Idx → Elt F .bf16) (y : S256x256.Idx) :
    (slot j b).view.read (Elt F) g y = g (place j b y) := by
  let k : S1x1x256x256.Idx := ix4 (⟨0, Nat.one_pos⟩ : Fin 1) (⟨0, Nat.one_pos⟩ : Fin 1) (⟨(y 0).val, (y 0).isLt⟩ : Fin 256) (⟨(y 1).val, (y 1).isLt⟩ : Fin 256)
  have e : (slot j b).view.read (Elt F) g y = shapeCast S256x256 ((Memref.whole cc0_scratch13).view.readAt (Elt F)
      (Rect.unit (s := S4x2x256x256) ![j.val, b.val, 0, 0] S1x1x256x256.size (slot_inb j b)).toLoadRect g) casts_w y := rfl
  have hk : (S1x1x256x256.rowMajor k).val = (S256x256.rowMajor y).val := by
    rw [Shape.rowMajor_val_two, Shape.rowMajor_val_four]
    show ((0 * 1 + 0) * 256 + (y 0).val) * 256 + (y 1).val = (y 0).val * 256 + (y 1).val
    omega
  rw [e, shapeCast_apply _ _ _ k hk]
  refine congrArg g (funext fun a => Fin.ext ?_)
  match a with
  | ⟨0, _⟩ => exact (show j.val + 1 * 0 = j.val by omega)
  | ⟨1, _⟩ => exact (show b.val + 1 * 0 = b.val by omega)
  | ⟨2, _⟩ => exact (show 0 + 1 * (y 0).val = (y 0).val by omega)
  | ⟨3, _⟩ => exact (show 0 + 1 * (y 1).val = (y 1).val by omega)

theorem inWin_place (j : Fin 4) (b : Fin 2) (y : S256x256.Idx) : inWin (place j b y) = y := funext fun a => match a with
  | ⟨0, _⟩ => rfl
  | ⟨1, _⟩ => rfl

theorem place_mem (b : Fin 2) (h : Fin 4) (y : S256x256.Idx) (ha : 64 * h.val ≤ (y 1).val) (hb : (y 1).val < 64 * h.val + 64) :
    place 3 b y ∈ (hbox b h).set := by
  have hy0 : (y 0).val < 256 := (y 0).isLt
  refine Rect.mem_set_unit.mpr fun a => ?_
  match a with
  | ⟨0, _⟩ => exact ⟨(show 3 ≤ 3 by omega), (show 3 < 3 + 1 by omega)⟩
  | ⟨1, _⟩ => exact ⟨(show b.val ≤ b.val by omega), (show b.val < b.val + 1 by omega)⟩
  | ⟨2, _⟩ => exact ⟨Nat.zero_le _, (show (y 0).val < 0 + 256 by omega)⟩
  | ⟨3, _⟩ => exact ⟨ha, hb⟩

set_option maxHeartbeats 2000000 in
/-- After the four heads are stored, the window holds them side by side. -/
theorem heads_stored (c : Dev nD) (b : Fin 2) (f : S4x2x256x256.Idx → Elt F .bf16) (w₀ w₁ w₂ w₃ : S1x1x256x64.Idx → Elt F .bf16)
    (h₀ : w₀ = hBox (headB I c b 0)) (h₁ : w₁ = hBox (headB I c b 1)) (h₂ : w₂ = hBox (headB I c b 2)) (h₃ : w₃ = hBox (headB I c b 3)) :
    (slot 3 b).view.read (Elt F) ((Memref.whole cc0_scratch13).view.writes (Elt F) f
      [⟨hbox b 3, w₃⟩, ⟨hbox b 2, w₂⟩, ⟨hbox b 1, w₁⟩, ⟨hbox b 0, w₀⟩]) = headsB I c b := by
  funext y
  rw [slot_read]
  have hy : (y 1).val < 256 := (y 1).isLt
  refine (View.read_writes_apply_of_pieces (View.whole cc0_scratch13) f (fun i => headsB I c b (inWin i))
    [⟨hbox b 3, w₃⟩, ⟨hbox b 2, w₂⟩, ⟨hbox b 1, w₁⟩, ⟨hbox b 0, w₀⟩] ?_ (place 3 b y) ?_).trans (congrArg (headsB I c b) (inWin_place 3 b y))
  · intro p hp x
    simp only [List.mem_cons, List.not_mem_nil, or_false] at hp
    rcases hp with rfl | rfl | rfl | rfl
    · exact (congrFun h₃ x).trans (head_piece I c b 3 x)
    · exact (congrFun h₂ x).trans (head_piece I c b 2 x)
    · exact (congrFun h₁ x).trans (head_piece I c b 1 x)
    · exact (congrFun h₀ x).trans (head_piece I c b 0 x)
  · by_cases c3 : 192 ≤ (y 1).val
    · exact ⟨⟨hbox b 3, w₃⟩, List.mem_cons_self, place_mem b 3 y c3 (by show (y 1).val < 64 * 3 + 64; omega)⟩
    by_cases c2 : 128 ≤ (y 1).val
    · exact ⟨⟨hbox b 2, w₂⟩, (List.mem_cons_of_mem _ List.mem_cons_self), place_mem b 2 y c2 (by show (y 1).val < 64 * 2 + 64; omega)⟩
    by_cases c1 : 64 ≤ (y 1).val
    · exact ⟨⟨hbox b 1, w₁⟩, (List.mem_cons_of_mem _ (List.mem_cons_of_mem _ List.mem_cons_self)), place_mem b 1 y c1 (by show (y 1).val < 64 * 1 + 64; omega)⟩
    · exact ⟨⟨hbox b 0, w₀⟩, (List.mem_cons_of_mem _ (List.mem_cons_of_mem _ (List.mem_cons_of_mem _ List.mem_cons_self))), place_mem b 0 y (by show 64 * 0 ≤ _; omega) (by show (y 1).val < 64 * 0 + 64; omega)⟩

/-! ## A window's share over its transfers -/

/-- The window at full share: a part for each of the three transfers out of it, and one to read from meanwhile. -/
theorem win_deal (c : Dev nD) (b : Fin 2) (off : Fin 4 → ℕ) (inb) (h : off = ![3, b.val, 0, 0]) (f : S4x2x256x256.Idx → Elt F .bf16)
    (v : Vec F S256x256 .bf16) (hv : (slot 3 b).view.read (Elt F) f = v) :
    (winAt c off inb fullShare f : sProp 𝕄) ⊢ iprop(∃ g : S4x2x256x256.Idx → Elt F .bf16, ⌜(slot 3 b).view.read (Elt F) g = v⌝
      ∗ slotPts c 3 b (qO 0) g ∗ slotPts c 3 b (qO 1) g ∗ slotPts c 3 b (qO 2) g ∗ winAt c off inb qRead g) := by
  iintro H
  iexists f
  isplitr; · ipureintro; exact hv
  ihave H := lend $$ H
  icases H with ⟨Hl, Hr⟩
  ihave Hl := lend $$ Hl
  ihave Hr := lend $$ Hr
  icases Hl with ⟨H0, H1⟩
  icases Hr with ⟨H2, H3⟩
  isplitl [H0]; · iapply (slot_of_win c 3 b off inb h _ f); iexact H0
  isplitl [H1]; · iapply (slot_of_win c 3 b off inb h _ f); iexact H1
  isplitl [H2]; · iapply (slot_of_win c 3 b off inb h _ f); iexact H2
  iexact H3

omit [FloatOps F] in
/-- And back, whatever it holds. -/
theorem win_regain (c : Dev nD) (b : Fin 2) (off : Fin 4 → ℕ) (inb) (h : off = ![3, b.val, 0, 0]) (g : S4x2x256x256.Idx → Elt F .bf16) :
    iprop((∃ f, slotPts (F := F) c 3 b (qO 0) f) ∗ (∃ f, slotPts (F := F) c 3 b (qO 1) f) ∗ (∃ f, slotPts (F := F) c 3 b (qO 2) f) ∗ winAt c off inb qRead g)
      ⊢ (iprop(∃ f, slotPts c 3 b fullShare f) : sProp 𝕄) := by
  iintro ⟨⟨%f0, H0⟩, ⟨%f1, H1⟩, ⟨%f2, H2⟩, H3⟩
  ihave H3 := (slot_of_win c 3 b off inb h _ g) $$ H3
  unfold slotPts
  iexists g
  iapply (regain (f := f1) (g := g))
  isplitl [H0 H1]
  · iapply (regain (f := f0) (g := f1))
    isplitl [H0]; · iexact H0
    iexact H1
  iapply (regain (f := f2) (g := g))
  isplitl [H2]; · iexact H2
  iexact H3

omit [FloatOps F] in
/-- A received window, as the loads name it. -/
theorem recv_open (A : Vals F) (c : Dev nD) (j : Fin 3) (b : Fin 2) (off : Fin 4 → ℕ) (inb) (h : off = ![j.castSucc.val, b.val, 0, 0]) :
    (oRecvPay A c j b : sProp 𝕄) ⊢ iprop(∃ f : S4x2x256x256.Idx → Elt F .bf16, ⌜(slot j.castSucc b).view.read (Elt F) f = A.ov (peer j.succ c) b⌝
      ∗ winAt c off inb fullShare f) := by
  unfold oRecvPay
  iintro ⟨%f, %hf, H⟩
  iexists f
  isplitr; · ipureintro; exact hf
  iapply (win_of_slot c j.castSucc b off inb h _ f); iexact H

end Cert.Mla

end
-- ==== Proof.Out.lean ====
/-
# The accumulator and the returned array

What a load of one batch row of the accumulator reads after the stores into both rows, and what the returned array holds
once both rows are copied out.
-/
module

public import proofs.«01_k».proof.Proof.Slots
public import Idealize.ShloMosaic.Lib.Pipeline.FrameBody

@[expose] public section

noncomputable section

namespace Cert.Mla

open Cert.KernelIdeal Cert.KernelIdeal.Gen

open Idealize.ShloMosaic
open Idealize.ShloMosaic.TcCoe
open Idealize.ShloMosaic.ValueIdx (ix2 ix3)

variable {F : FTy → Type} [FloatOps F]

/-- The boxes of the two rows don't meet. -/
theorem rows_disjoint : Disjoint (xbox 0).set (xbox 1).set := by
  rw [Finset.disjoint_left]
  intro i h₀ h₁
  have a : (i 0).val < 0 + 1 := (Rect.mem_set_unit.mp h₀ 0).2
  have b : 1 ≤ (i 0).val := (Rect.mem_set_unit.mp h₁ 0).1
  omega

/-- A load of row 0 finds the last store into row 0, a store into row 1 come between or not; and a load of row 1. -/
theorem acc_row0 (w w' : (xbox 0).shape.Idx → Elt F .f32) (K : List (View.Piece (Elt F) S2x256x1024 .f32)) :
    (View.whole cc0_scratch8).readCov (Val := Elt F) (⟨xbox 1, w'⟩ :: ⟨xbox 0, w⟩ :: K) (xbox 0).toLoadRect = w := by
  rw [View.readCov_cons_of_disjoint (View.whole cc0_scratch8) ⟨xbox 1, w'⟩ (⟨xbox 0, w⟩ :: K) (xbox 0).toLoadRect rows_disjoint.symm]
  exact View.readCov_cons_toLoadRect (View.whole cc0_scratch8) (xbox 0) w K
theorem acc_row1 (w w' : (xbox 0).shape.Idx → Elt F .f32) (K : List (View.Piece (Elt F) S2x256x1024 .f32)) :
    (View.whole cc0_scratch8).readCov (Val := Elt F) (⟨xbox 0, w'⟩ :: ⟨xbox 1, w⟩ :: K) (xbox 1).toLoadRect = w := by
  rw [View.readCov_cons_of_disjoint (View.whole cc0_scratch8) ⟨xbox 0, w'⟩ (⟨xbox 1, w⟩ :: K) (xbox 1).toLoadRect rows_disjoint]
  exact View.readCov_cons_toLoadRect (View.whole cc0_scratch8) (xbox 1) w K

/-- Row `b` of the accumulator, and of the returned array, as the copies out name them. -/
abbrev accRow (b : Fin 2) : Memref sig .tc .vmem S256x1024 .f32 :=
  ((Memref.whole cc0_scratch8).slice (Rect.unit (s := S2x256x1024) ![b.val, 0, 0] S1x256x1024.size (xbox_inb b)) (fun _ => rfl)).squeeze S256x1024
    squeezes_S1x256x1024_S256x1024
abbrev outRow (b : Fin 2) : Memref sig .tc .hbm S256x1024 .f32 :=
  ((Memref.whole main_v1).slice (Rect.unit (s := S2x256x1024) ![b.val, 0, 0] S1x256x1024.size (xbox_inb b)) (fun _ => rfl)).squeeze S256x1024
    squeezes_S1x256x1024_S256x1024

/-- An index of a row: in the row with its leading axis, in the array. -/
def lead (y : S256x1024.Idx) : S1x256x1024.Idx := ix3 (⟨0, Nat.one_pos⟩ : Fin 1) (⟨(y 0).val, (y 0).isLt⟩ : Fin 256) (⟨(y 1).val, (y 1).isLt⟩ : Fin 1024)
def inOut (b : Fin 2) (y : S256x1024.Idx) : S2x256x1024.Idx := ix3 b (⟨(y 0).val, (y 0).isLt⟩ : Fin 256) (⟨(y 1).val, (y 1).isLt⟩ : Fin 1024)

theorem emb_lead (b : Fin 2) (h : S256x1024.numel = S1x256x1024.numel) (y : S256x1024.Idx) : (xbox b).emb (Shape.reshapeEquiv h y) = inOut b y := by
  have e : Shape.reshapeEquiv h y = lead y := Shape.reshapeEquiv_eq_of_rowMajor h (by
    rw [Shape.rowMajor_val_two, Shape.rowMajor_val_three]
    show (0 * 256 + (y 0).val) * 1024 + (y 1).val = (y 0).val * 1024 + (y 1).val
    omega)
  rw [e]
  refine funext fun a => Fin.ext ?_
  match a with
  | ⟨0, _⟩ => exact (show b.val + 1 * 0 = b.val by omega)
  | ⟨1, _⟩ => exact (show 0 + 1 * (y 0).val = (y 0).val by omega)
  | ⟨2, _⟩ => exact (show 0 + 1 * (y 1).val = (y 1).val by omega)

theorem outRow_emb (b : Fin 2) (y : S256x1024.Idx) : (outRow b).view.emb y = inOut b y := emb_lead b _ y
theorem accRow_emb (b : Fin 2) (y : S256x1024.Idx) : (accRow b).view.emb y = inOut b y := emb_lead b _ y

theorem inOut_eq (i : S2x256x1024.Idx) : inOut (i 0) (ix2 (⟨(i 1).val, (i 1).isLt⟩ : Fin 256) (⟨(i 2).val, (i 2).isLt⟩ : Fin 1024)) = i :=
  funext fun a => match a with
  | ⟨0, _⟩ => rfl
  | ⟨1, _⟩ => rfl
  | ⟨2, _⟩ => rfl

theorem xbox_inRow (b : Fin 2) (y : S256x1024.Idx) : (xbox b).emb (inRow (inOut b y)) = inOut b y := by
  refine funext fun a => Fin.ext ?_
  match a with
  | ⟨0, _⟩ => exact (show b.val + 1 * 0 = b.val by omega)
  | ⟨1, _⟩ => exact (show 0 + 1 * (y 0).val = (y 0).val by omega)
  | ⟨2, _⟩ => exact (show 0 + 1 * (y 1).val = (y 1).val by omega)

omit [FloatOps F] in
theorem accRow_read (b : Fin 2) (g : S2x256x1024.Idx → Elt F .f32) (y : S256x1024.Idx) : (accRow b).view.read (Elt F) g y = g (inOut b y) :=
  congrArg g (accRow_emb b y)

/-- Both rows of the accumulator, read after the last stores into them. -/
theorem acc_read (f : S2x256x1024.Idx → Elt F .f32) (w₀ w₁ : (xbox 0).shape.Idx → Elt F .f32)
    (K : List (View.Piece (Elt F) S2x256x1024 .f32)) (b : Fin 2) (y : S256x1024.Idx) :
    (accRow b).view.read (Elt F) ((Memref.whole cc0_scratch8).view.writes (Elt F) f (⟨xbox 1, w₁⟩ :: ⟨xbox 0, w₀⟩ :: K)) y
      = (match b with | 0 => w₀ | 1 => w₁) (inRow (inOut b y)) := by
  refine (accRow_read b _ y).trans ?_
  have e := xbox_inRow b y
  match b with
  | 0 =>
    refine (congrArg _ e.symm).trans ((stored_before cc0_scratch8 f (xbox 1) w₁ (⟨xbox 0, w₀⟩ :: K) _ ?_).trans
      (stored_last cc0_scratch8 f (xbox 0) w₀ K (inRow (inOut 0 y))))
    rw [e]
    intro hm
    have h : 1 ≤ 0 := (Rect.mem_set_unit.mp hm 0).1
    omega
  | 1 => exact (congrArg _ e.symm).trans (stored_last cc0_scratch8 f (xbox 1) w₁ (⟨xbox 0, w₀⟩ :: K) (inRow (inOut 1 y)))

/-- Copying both rows out fills the returned array. -/
theorem out_filled (f g : S2x256x1024.Idx → Elt F .f32) (d : Fin 2 → S256x1024.Idx → Elt F .f32) (h : ∀ b y, d b y = g (inOut b y)) :
    (outRow 1).view.write (Elt F) ((outRow 0).view.write (Elt F) f (d 0) Finset.univ) (d 1) Finset.univ = g := by
  funext i
  obtain ⟨b, y, rfl⟩ : ∃ b y, inOut b y = i := ⟨_, _, inOut_eq i⟩
  rw [← h]
  match b with
  | 0 =>
    have hn : inOut 0 y ∉ (outRow 1).view.setOn Finset.univ := by
      intro hm
      obtain ⟨z, -, hz⟩ := Finset.mem_map.mp hm
      rw [outRow_emb] at hz
      exact absurd (congrFun hz 0) (show (1 : Fin 2) ≠ 0 by decide)
    rw [View.write_of_not_mem (v := (outRow 1).view) _ _ _ hn, ← outRow_emb 0 y]
    exact View.write_emb_of_mem (v := (outRow 0).view) f (d 0) (Finset.mem_univ y)
  | 1 =>
    rw [← outRow_emb 1 y]
    exact View.write_emb_of_mem (v := (outRow 1).view) _ (d 1) (Finset.mem_univ y)

end Cert.Mla

end
-- ==== Proof.Body.lean ====
/-
# The body
-/
module

public import proofs.«01_k».proof.Proof.Out
public import proofs.«01_k».proof.Proof.Gen.KernelIdeal.Points

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Args F)

theorem sem8_inb (i : Fin 8) : ∀ a, (![i.val] : Fin 1 → Nat) a + S1.size a ≤ S8.size a := by revert i; decide
/-- The semaphore of the copy of argument `i`, of the copy of output row `b`. -/
abbrev ldS (i : Fin 8) : DmaSem sig := ((cc0_scratch14.slice (Rect.unit (s := S8) ![i.val] S1.size (sem8_inb i))).squeeze S_ squeezes_S1_S_).sem
abbrev stS (i : Fin 2) : DmaSem sig := ((cc0_scratch15.slice (Rect.unit (s := S2) ![i.val] S1.size (sem2_inb i))).squeeze S_ squeezes_S1_S_).sem

/-- The arguments, as they are found and as they are left. -/
def argPts (c : Dev nD) : sProp 𝕄 :=
  iprop(held c main_arg0 (I c).x ∗ held c main_arg1 (I c).wdkv ∗ held c main_arg2 (I c).wuk ∗ held c main_arg3 (I c).wuv
    ∗ held c main_arg4 (I c).wq ∗ held c main_arg5 (I c).wqr ∗ held c main_arg6 (I c).wkr ∗ held c main_arg7 (I c).wo)

/-- A buffer of the device, whatever it holds. -/
def someAt (c : Dev nD) (b : Ref sig .tc) : sProp 𝕄 := iprop(∃ f, held (F := F) c b f)

/-- The nine scratch buffers that no transfer reaches, and the two latent sources. -/
def scratchPts (c : Dev nD) : sProp 𝕄 :=
  iprop(someAt (F := F) c cc0_scratch0 ∗ someAt (F := F) c cc0_scratch1 ∗ someAt (F := F) c cc0_scratch2 ∗ someAt (F := F) c cc0_scratch3
    ∗ someAt (F := F) c cc0_scratch4 ∗ someAt (F := F) c cc0_scratch5 ∗ someAt (F := F) c cc0_scratch6 ∗ someAt (F := F) c cc0_scratch7
    ∗ someAt (F := F) c cc0_scratch8 ∗ someAt (F := F) c cc0_scratch9 ∗ someAt (F := F) c cc0_scratch11)

def localSems (c : Dev nD) : sProp 𝕄 :=
  iprop((semVal (cell c (.dma (ldS 0))) 0 ∗ semVal (cell c (.dma (ldS 1))) 0 ∗ semVal (cell c (.dma (ldS 2))) 0 ∗ semVal (cell c (.dma (ldS 3))) 0
    ∗ semVal (cell c (.dma (ldS 4))) 0 ∗ semVal (cell c (.dma (ldS 5))) 0 ∗ semVal (cell c (.dma (ldS 6))) 0 ∗ semVal (cell c (.dma (ldS 7))) 0)
    ∗ semVal (cell c (.dma (stS 0))) 0 ∗ semVal (cell c (.dma (stS 1))) 0)

/-- What a device hands to its peers at the barrier. -/
def landPts (c : Dev nD) : sProp 𝕄 :=
  iprop(barPay (F := F) (peer 0 c) 0 ∗ barPay (F := F) (peer 1 c) 1 ∗ barPay (F := F) (peer 2 c) 2 ∗ barPay (F := F) (peer 3 c) 3)

/-- What the exchange of the latent blocks takes. -/
def xRes (c : Dev nD) : sProp 𝕄 :=
  iprop(sendR (vals I) c (.dma (xSend 0)) 0 (.dma (xRecv 0)) ∗ sendR (vals I) c (.dma (xSend 1)) 0 (.dma (xRecv 1))
    ∗ waitR (vals I) c (.dma (xSend 0)) ∗ waitR (vals I) c (.dma (xRecv 0)) ∗ waitR (vals I) c (.dma (xSend 1)) ∗ waitR (vals I) c (.dma (xRecv 1))
    ∗ cred (tallyAt (cell c (.dma (xRecv 0))) () NX) ∗ cred (tallyAt (cell c (.dma (xRecv 1))) () NK))

/-- What the exchange of output window `(j,b)` takes. -/
def oRes (c : Dev nD) (j : Fin 3) (b : Fin 2) : sProp 𝕄 :=
  iprop(sendR (vals I) c (.dma (oSend j b)) j.succ (.dma (oRecv j b)) ∗ waitR (vals I) c (.dma (oSend j b)) ∗ waitR (vals I) c (.dma (oRecv j b))
    ∗ cred (tallyAt (cell c (.dma (oRecv j b))) () NO))

def oResAll (c : Dev nD) : sProp 𝕄 :=
  iprop(oRes I c 0 0 ∗ oRes I c 1 0 ∗ oRes I c 2 0 ∗ oRes I c 0 1 ∗ oRes I c 1 1 ∗ oRes I c 2 1)

def barRes (c : Dev nD) : sProp 𝕄 :=
  iprop(sigR (vals I) c 0 ∗ sigR (vals I) c 1 ∗ sigR (vals I) c 2 ∗ sigR (vals I) c 3 ∗ waitR (vals I) c (.reg barS)
    ∗ cred (tallyAt (cell c (.reg barS)) () 4))

theorem mayWaits (c : Dev nD) (i : Fin 26) (n : ℕ) (h : ∀ k < n, lvS (.dma i) < lvS (ev k).2.1) :
    (levAts L lv : sProp 𝕄) ⊢ MayWait (c : Thread nD τ) (.dma i) () (owe c n) := mayWait c (.dma i) n h

/-- The eight windows of the output buffer, whatever they hold. -/
def winPts (c : Dev nD) : sProp 𝕄 :=
  iprop((∃ f, slotPts (F := F) c 3 0 fullShare f) ∗ (∃ f, slotPts (F := F) c 3 1 fullShare f)
    ∗ (∃ f, slotPts (F := F) c 0 0 fullShare f) ∗ (∃ f, slotPts (F := F) c 0 1 fullShare f)
    ∗ (∃ f, slotPts (F := F) c 1 0 fullShare f) ∗ (∃ f, slotPts (F := F) c 1 1 fullShare f)
    ∗ (∃ f, slotPts (F := F) c 2 0 fullShare f) ∗ (∃ f, slotPts (F := F) c 2 1 fullShare f))

/-- The semaphores of the exchange, spent. -/
def exchSems (c : Dev nD) : sProp 𝕄 :=
  iprop((semVal (cell c (.dma (xSend 0))) 0 ∗ semVal (cell c (.dma (xSend 1))) 0 ∗ semVal (cell c (.dma (xRecv 0))) 0 ∗ semVal (cell c (.dma (xRecv 1))) 0)
    ∗ (semVal (cell c (.dma (oSend 0 0))) 0 ∗ semVal (cell c (.dma (oSend 0 1))) 0 ∗ semVal (cell c (.dma (oSend 1 0))) 0
      ∗ semVal (cell c (.dma (oSend 1 1))) 0 ∗ semVal (cell c (.dma (oSend 2 0))) 0 ∗ semVal (cell c (.dma (oSend 2 1))) 0)
    ∗ (semVal (cell c (.dma (oRecv 0 0))) 0 ∗ semVal (cell c (.dma (oRecv 0 1))) 0 ∗ semVal (cell c (.dma (oRecv 1 0))) 0
      ∗ semVal (cell c (.dma (oRecv 1 1))) 0 ∗ semVal (cell c (.dma (oRecv 2 0))) 0 ∗ semVal (cell c (.dma (oRecv 2 1))) 0))

/-- What a device holds at its end: the arguments as they were, the result, every buffer, every semaphore at zero, no debt. -/
def donePts (c : Dev nD) : sProp 𝕄 :=
  iprop(argPts I c ∗ held c main_v1 (outC I c) ∗ (scratchPts (F := F) c ∗ someAt (F := F) c cc0_scratch10 ∗ someAt (F := F) c cc0_scratch12 ∗ winPts (F := F) c)
    ∗ (localSems (F := F) c ∗ exchSems (F := F) c) ∗ semVal (cell c (.reg barS)) 0 ∗ ∃ W, owes (c : Thread nD τ) (owe c 0) W)

set_option maxHeartbeats 4000000 in
/-- The body run from a device's share of the launch: it ends, and the device holds `donePts`. -/
theorem run_body (c : Dev nD) (W : Waits sig Unit) (Kt : PUnit → sProp 𝕄) :
    iprop(levAts L lv ∗ owes (c : Thread nD τ) (owe c 12) W ∗ argPts I c ∗ someAt (F := F) c main_v1 ∗ scratchPts (F := F) c ∗ localSems (F := F) c ∗ landPts (F := F) c
        ∗ (∃ f, slotPts (F := F) c 3 0 fullShare f) ∗ (∃ f, slotPts (F := F) c 3 1 fullShare f)
        ∗ barRes I c ∗ xRes I c ∗ oResAll I c
        ∗ (donePts I c -∗ Kt ⟨⟩))
      ⊢ wp frame (wpE (defs₀ (F := F)) 𝒱₀ (c : Thread nD τ) none) Set.univ (bodyAt0 (F := F) t0_0) Kt := by
  unfold bodyAt0
  simp only [cc0_body_eq_skeleton]; unfold cc0_body_skel
  unfold argPts scratchPts localSems someAt landPts barRes xRes oResAll oRes
  iintro ⟨#Hlev, HO, ⟨Ha0, Ha1, Ha2, Ha3, Ha4, Ha5, Ha6, Ha7⟩, ⟨%o8, Hout⟩, ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩, ⟨%s9, Hs9⟩, ⟨%s11, Hs11⟩⟩,
    ⟨⟨Hl0, Hl1, Hl2, Hl3, Hl4, Hl5, Hl6, Hl7⟩, Hst0, Hst1⟩, ⟨Hp0, Hp1, Hp2, Hp3⟩, ⟨%f30, Hw0⟩, ⟨%f31, Hw1⟩, ⟨Hg0, Hg1, Hg2, Hg3, HwB, HcB⟩,
    ⟨HtX0, HtX1, HwXs0, HwXr0, HwXs1, HwXr1, HcX0, HcX1⟩,
    ⟨⟨HtO00, HwS00, HwR00, HcO00⟩, ⟨HtO10, HwS10, HwR10, HcO10⟩, ⟨HtO20, HwS20, HwR20, HcO20⟩,
      ⟨HtO01, HwS01, HwR01, HcO01⟩, ⟨HtO11, HwS11, HwR11, HcO11⟩, ⟨HtO21, HwS21, HwR21, HcO21⟩⟩, Hk⟩
  have hm8 : ∀ i : Fin 26, i.val < 8 → ((levAts L lv : sProp 𝕄) ⊢ MayWait (c : Thread nD τ) (.dma i) () (owe c 8)) :=
    fun i hi => mayWaits c i 8 (by revert i; decide)
  have hm6 : ∀ i : Fin 26, i.val < 8 → ((levAts L lv : sProp 𝕄) ⊢ MayWait (c : Thread nD τ) (.dma i) () (owe c 6)) :=
    fun i hi => mayWaits c i 6 (by revert i; decide)
  -- the eight copies start; then one unit to each of the four peers
  sl_exec
  iapply (wp_bar_signal (vals I) c _ 0 (dev1_eq c) 11 rfl (by decide)) $$ [Hg0 HO Hp0]
  · isplitl [Hg0]; · iexact Hg0
    isplitl [HO]; · iexact HO
    iexact Hp0
  iintro HO
  sl_exec
  iapply (wp_bar_signal (vals I) c _ 1 (dev2_eq c) 10 rfl (by decide)) $$ [Hg1 HO Hp1]
  · isplitl [Hg1]; · iexact Hg1
    isplitl [HO]; · iexact HO
    iexact Hp1
  iintro HO
  sl_exec
  iapply (wp_bar_signal (vals I) c _ 2 (dev3_eq c) 9 rfl (by decide)) $$ [Hg2 HO Hp2]
  · isplitl [Hg2]; · iexact Hg2
    isplitl [HO]; · iexact HO
    iexact Hp2
  iintro HO
  sl_exec
  iapply (wp_bar_signal (vals I) c _ 3 (dev4_eq c) 8 rfl (by decide)) $$ [Hg3 HO Hp3]
  · isplitl [Hg3]; · iexact Hg3
    isplitl [HO]; · iexact HO
    iexact Hp3
  iintro HO
  sl_exec
  -- the barrier: the peers' landing buffers
  iapply (wp_bar_wait (vals I) c 8 rfl (by decide)) $$ [HwB HcB HO]
  · isplitl [HwB]; · iexact HwB
    isplitl [HcB]; · iexact HcB
    isplitl [HO]; · iexact HO
    iexact Hlev
  iintro ⟨HO, HzB, Hq0, Hq1, Hq2, Hq3⟩
  unfold barPay
  icases Hq0 with ⟨⟨%fc, HcR⟩, %fk, HkR⟩
  icases Hq1 with ⟨⟨%g00, Hd00⟩, %g01, Hd01⟩
  icases Hq2 with ⟨⟨%g10, Hd10⟩, %g11, Hd11⟩
  icases Hq3 with ⟨⟨%g20, Hd20⟩, %g21, Hd21⟩
  sl_exec
  -- the latent blocks go to the device across `x`, half of their share with them
  have hw : run_body.sl.v75 I c s1 = (I c).wdkv := read_copied_all (F := F) cc0_scratch1 ![0, 0] (by decide) inb_S1024x64_S1024x64_0_0 s1 (I c).wdkv
  have hx₀ : run_body.sl.v91 I c s0 = xB I c 0 := read_copied (F := F) cc0_scratch0 (xbox 0) s0 (I c).x
  have hx₁ : run_body.sl.v99 I c s0 = xB I c 1 := read_copied (F := F) cc0_scratch0 (xbox 1) s0 (I c).x
  have e₀ : k0_pay4 (run_body.sl.r I c s1) (run_body.sl.v91 I c s0) = latent I c 0 := by
    unfold run_body.sl.r; rw [hw, hx₀]; rfl
  have e₁ : k0_pay5 (run_body.sl.r I c s1) (run_body.sl.v99 I c s0) = latent I c 1 := by
    unfold run_body.sl.r; rw [hw, hx₁]; rfl
  ihave Hs9 := (cL_ready (vals I) c _ (holdsC_stored (vals I) c s9 _ _ e₀ e₁)) $$ Hs9
  icases Hs9 with ⟨%fc9, %hfc9, Hs9s, Hs9⟩
  iapply (wp_send_c (vals I) c _ (dev5_eq c) fc9 hfc9 fc) $$ [HtX0 Hs9s HcR HO]
  · isplitl [HtX0]; · iexact HtX0
    isplitl [Hs9s]; · iexact Hs9s
    isplitl [HcR]; · iexact HcR
    iexact HO
  iintro ⟨HcXs0, HO⟩
  sl_exec
  -- and the up-projection blocks
  have hk₀ : k0_pay2 (View.readAt (Elt F) (Memref.whole cc0_scratch2).view (ubox c).toLoadRect
      ((Memref.whole cc0_scratch2).view.write (Elt F) s2 (run_body.sl.dma0_2 I c) Finset.univ)) = upK I c :=
    congrArg k0_pay2 (read_copied (F := F) cc0_scratch2 (ubox c) s2 (I c).wuk)
  have hk₁ : k0_pay3 (View.readAt (Elt F) (Memref.whole cc0_scratch3).view (ubox c).toLoadRect
      ((Memref.whole cc0_scratch3).view.write (Elt F) s3 (run_body.sl.dma0_3 I c) Finset.univ)) = upV I c :=
    congrArg k0_pay3 (read_copied (F := F) cc0_scratch3 (ubox c) s3 (I c).wuv)
  ihave Hs11 := (kL_ready (vals I) c _ (holdsK_stored (vals I) c s11 _ _ hk₀ hk₁)) $$ Hs11
  icases Hs11 with ⟨%fc11, %hfc11, Hs11s, Hs11⟩
  iapply (wp_send_k (vals I) c _ (dev6_eq c) fc11 hfc11 fk) $$ [HtX1 Hs11s HkR HO]
  · isplitl [HtX1]; · iexact HtX1
    isplitl [Hs11s]; · iexact Hs11s
    isplitl [HkR]; · iexact HkR
    iexact HO
  iintro ⟨HcXs1, HO⟩
  sl_exec
  -- the four waits of the exchange across `x`
  iapply (wp_dma_wait (vals I) c (sem := xSend 0) (dst := cL) 6 (by rw [xSend_val]; omega) (N := NX) rfl (dmaAmt_xSend _) (by decide) (dmaPay_xSend _ c _)) $$ [HwXs0 HcXs0 HO]
  · isplitl [HwXs0]; · iexact HwXs0
    isplitl [HcXs0]; · iexact HcXs0
    isplitl [HO]; · iexact HO
    iexact Hlev
  iintro ⟨HO, HzXs0, Hb9⟩
  sl_exec
  iapply (wp_dma_wait (vals I) c (sem := xRecv 0) (dst := cR) 6 (by rw [xRecv_val]; omega) (N := NX) rfl (dmaAmt_xRecv _) (by decide) (dmaPay_xRecv _ c _)) $$ [HwXr0 HcX0 HO]
  · isplitl [HwXr0]; · iexact HwXr0
    isplitl [HcX0]; · iexact HcX0
    isplitl [HO]; · iexact HO
    iexact Hlev
  iintro ⟨HO, HzXr0, Hr10⟩
  sl_exec
  iapply (wp_dma_wait (vals I) c (sem := xSend 1) (dst := kL) 6 (by rw [xSend_val]; omega) (N := NK) rfl (dmaAmt_xSend _) (by decide) (dmaPay_xSend _ c _)) $$ [HwXs1 HcXs1 HO]
  · isplitl [HwXs1]; · iexact HwXs1
    isplitl [HcXs1]; · iexact HcXs1
    isplitl [HO]; · iexact HO
    iexact Hlev
  iintro ⟨HO, HzXs1, Hb11⟩
  sl_exec
  iapply (wp_dma_wait (vals I) c (sem := xRecv 1) (dst := kR) 6 (by rw [xRecv_val]; omega) (N := NK) rfl (dmaAmt_xRecv _) (by decide) (dmaPay_xRecv _ c _)) $$ [HwXr1 HcX1 HO]
  · isplitl [HwXr1]; · iexact HwXr1
    isplitl [HcX1]; · iexact HcX1
    isplitl [HO]; · iexact HO
    iexact Hlev
  iintro ⟨HO, HzXr1, Hr12⟩
  unfold xSendPay xRecvPay
  icases Hr10 with ⟨%fr10, %hr10, Hs10⟩
  icases Hr12 with ⟨%fr12, %hr12, Hs12⟩
  ihave Hs10 := (cR_held c fr10) $$ Hs10
  ihave Hs12 := (kR_held c fr12) $$ Hs12
  ihave Hw0 := (win_of_slot c 3 0 ![3, 0, 0, 0] inb_S4x2x256x256_S1x1x256x256_3_0_0_0 rfl fullShare f30) $$ Hw0
  ihave Hw1 := (win_of_slot c 3 1 ![3, 1, 0, 0] inb_S4x2x256x256_S1x1x256x256_3_1_0_0 rfl fullShare f31) $$ Hw1
  sl_exec
  -- the values of the first batch row's heads
  have c₀ : View.readAt (Elt F) (Memref.whole cc0_scratch9).view (Rect.unit (s := S2x256x64) ![0, 0, 0] S1x256x64.size inb_S2x256x64_S1x256x64_0_0_0).toLoadRect fc9 = latent I c 0 := funext (hfc9 0)
  have c₁ : View.readAt (Elt F) (Memref.whole cc0_scratch9).view (Rect.unit (s := S2x256x64) ![1, 0, 0] S1x256x64.size inb_S2x256x64_S1x256x64_1_0_0).toLoadRect fc9 = latent I c 1 := funext (hfc9 1)
  have k₀ : View.readAt (Elt F) (Memref.whole cc0_scratch11).view (Rect.unit (s := S2x64x256) ![0, 0, 0] S1x64x256.size inb_S2x64x256_S1x64x256_0_0_0).toLoadRect fc11 = upK I c := funext (hfc11 0)
  have k₁ : View.readAt (Elt F) (Memref.whole cc0_scratch11).view (Rect.unit (s := S2x64x256) ![1, 0, 0] S1x64x256.size inb_S2x64x256_S1x64x256_1_0_0).toLoadRect fc11 = upV I c := funext (hfc11 1)
  have c₀' : View.readAt (Elt F) (Memref.whole cc0_scratch10).view (Rect.unit (s := S2x256x64) ![0, 0, 0] S1x256x64.size inb_S2x256x64_S1x256x64_0_0_0).toLoadRect fr10 = latent I (peer 0 c) 0 := funext (hr10 0)
  have c₁' : View.readAt (Elt F) (Memref.whole cc0_scratch10).view (Rect.unit (s := S2x256x64) ![1, 0, 0] S1x256x64.size inb_S2x256x64_S1x256x64_1_0_0).toLoadRect fr10 = latent I (peer 0 c) 1 := funext (hr10 1)
  have k₀' : View.readAt (Elt F) (Memref.whole cc0_scratch12).view (Rect.unit (s := S2x64x256) ![0, 0, 0] S1x64x256.size inb_S2x64x256_S1x64x256_0_0_0).toLoadRect fr12 = upK I (peer 0 c) := funext (hr12 0)
  have k₁' : View.readAt (Elt F) (Memref.whole cc0_scratch12).view (Rect.unit (s := S2x64x256) ![1, 0, 0] S1x64x256.size inb_S2x64x256_S1x64x256_1_0_0).toLoadRect fr12 = upV I (peer 0 c) := funext (hr12 1)
  have q0 : run_body.sl.r_4 I c s4 = qB I c 0 := congrArg (k0_pay10 · (xB I c 0)) (read_copied (F := F) cc0_scratch4 (qbox c) s4 (I c).wq)
  have qr0 : run_body.sl.r_5 I c s5 = qrB I c 0 := congrArg (k0_pay11 · (xB I c 0)) (read_copied (F := F) cc0_scratch5 (rbox c) s5 (I c).wqr)
  have kr0 : run_body.sl.r_6 I c s6 = krB I c 0 := by
    unfold run_body.sl.r_6 run_body.sl.v141
    exact congrArg (k0_pay12 · (xB I c 0)) (read_copied_all (F := F) cc0_scratch6 ![0, 0] (by decide) inb_S1024x32_S1024x32_0_0 s6 (I c).wkr)
  have kb0 : run_body.sl.r_14 fc9 fc11 fr10 fr12 = kB I c 0 := by
    unfold run_body.sl.r_14 run_body.sl.r_7; rw [c₀, k₀, c₀', k₀']; rfl
  have vb0 : run_body.sl.r_15 fc9 fc11 fr10 fr12 = vB I c 0 := by
    unfold run_body.sl.r_15 run_body.sl.r_8; rw [c₀, k₁, c₀', k₁']; rfl
  have w₀ : k0_pay25 (run_body.sl.r_5 I c s5) (run_body.sl.r_6 I c s6) (run_body.sl.r_15 fc9 fc11 fr10 fr12)
            (run_body.sl.r_16 I c s4) (run_body.sl.r_17 fc9 fc11 fr10 fr12) = hBox (headB I c 0 0) := by
    unfold run_body.sl.r_16 run_body.sl.r_17 run_body.sl.r_7; rw [qr0, kr0, vb0, q0, c₀, k₀, c₀', k₀']; exact head0_eq _ _ _ _ _ _ _
  have w₁ : k0_pay27 (run_body.sl.r_18 I c s4 s5 s6 fc9 fc11 fr10 fr12) = hBox (headB I c 0 1) := by
    unfold run_body.sl.r_18; rw [q0, qr0, kr0, kb0, vb0]; exact head1_eq _ _ _ _ _
  have w₂ : k0_pay28 (run_body.sl.r_4 I c s4) (run_body.sl.r_5 I c s5) (run_body.sl.r_6 I c s6)
            (run_body.sl.r_14 fc9 fc11 fr10 fr12) (run_body.sl.r_15 fc9 fc11 fr10 fr12) = hBox (headB I c 0 2) := by
    rw [q0, qr0, kr0, kb0, vb0]; exact head2_eq _ _ _ _ _
  have w₃ : k0_pay31 (run_body.sl.r_19 fc9 fc11 fr10 fr12) (run_body.sl.r_20 I c s4 s5 s6 fc9 fc11 fr10 fr12) = hBox (headB I c 0 3) := by
    unfold run_body.sl.r_19 run_body.sl.r_20; rw [q0, qr0, kr0, kb0, vb0]; exact head3_eq _ _ _ _ _
  have hst0 : (slot 3 0).view.read (Elt F) ((Memref.whole cc0_scratch13).view.writes (Elt F) f30
      [⟨Rect.unit (s := S4x2x256x256) ![3, 0, 0, 192] S1x1x256x64.size inb_S4x2x256x256_S1x1x256x64_3_0_0_192, _⟩, ⟨Rect.unit (s := S4x2x256x256) ![3, 0, 0, 128] S1x1x256x64.size inb_S4x2x256x256_S1x1x256x64_3_0_0_128, _⟩, ⟨Rect.unit (s := S4x2x256x256) ![3, 0, 0, 64] S1x1x256x64.size inb_S4x2x256x256_S1x1x256x64_3_0_0_64, _⟩, ⟨Rect.unit (s := S4x2x256x256) ![3, 0, 0, 0] S1x1x256x64.size inb_S4x2x256x256_S1x1x256x64_3_0_0_0, _⟩]) = headsB I c 0 :=
    heads_stored I c 0 f30 _ _ _ _ w₀ w₁ w₂ w₃
  ihave Hw0 := (win_deal c 0 ![3, 0, 0, 0] inb_S4x2x256x256_S1x1x256x256_3_0_0_0 rfl _ _ hst0) $$ Hw0
  icases Hw0 with ⟨%fw0, %hfw0, Hw00, Hw10, Hw20, Hw0⟩
  iapply (wp_send_o (vals I) c _ 0 0 (dev7_eq c) 5 rfl fw0 hfw0 g00) $$ [HtO00 Hw00 Hd00 HO]
  · isplitl [HtO00]; · iexact HtO00
    isplitl [Hw00]; · iexact Hw00
    isplitl [Hd00]; · iexact Hd00
    iexact HO
  iintro ⟨HcS00, HO⟩
  sl_exec
  iapply (wp_send_o (vals I) c _ 1 0 (dev8_eq c) 4 rfl fw0 hfw0 g10) $$ [HtO10 Hw10 Hd10 HO]
  · isplitl [HtO10]; · iexact HtO10
    isplitl [Hw10]; · iexact Hw10
    isplitl [Hd10]; · iexact Hd10
    iexact HO
  iintro ⟨HcS10, HO⟩
  sl_exec
  iapply (wp_send_o (vals I) c _ 2 0 (dev9_eq c) 3 rfl fw0 hfw0 g20) $$ [HtO20 Hw20 Hd20 HO]
  · isplitl [HtO20]; · iexact HtO20
    isplitl [Hw20]; · iexact Hw20
    isplitl [Hd20]; · iexact Hd20
    iexact HO
  iintro ⟨HcS20, HO⟩
  sl_exec
  -- the second batch row: the same
  have q1 : run_body.sl.r_9 I c s4 = qB I c 1 := by
    unfold run_body.sl.r_9 run_body.sl.r_1; rw [pay16_eq]
    exact congrArg (k0_pay10 · (xB I c 1)) (read_copied (F := F) cc0_scratch4 (qbox c) s4 (I c).wq)
  have qr1 : run_body.sl.r_10 I c s5 = qrB I c 1 := by
    unfold run_body.sl.r_10 run_body.sl.r_2; rw [pay17_eq]
    exact congrArg (k0_pay11 · (xB I c 1)) (read_copied (F := F) cc0_scratch5 (rbox c) s5 (I c).wqr)
  have kr1 : run_body.sl.r_11 I c s6 = krB I c 1 := by
    unfold run_body.sl.r_11 run_body.sl.r_3 run_body.sl.v141; rw [pay18_eq]
    exact congrArg (k0_pay12 · (xB I c 1)) (read_copied_all (F := F) cc0_scratch6 ![0, 0] (by decide) inb_S1024x32_S1024x32_0_0 s6 (I c).wkr)
  have a1 : run_body.sl.r_12 fc9 fc11 = k0_pay13 (latent I c 1) (upK I c) := by
    unfold run_body.sl.r_12; rw [pay19_eq, c₁, k₀]
  have a1' : run_body.sl.r_13 fc9 fc11 = k0_pay14 (latent I c 1) (upV I c) := by
    unfold run_body.sl.r_13; rw [pay20_eq, c₁, k₁]
  have kb1 : run_body.sl.r_22 I c fc9 fc11 = kB I c 1 := by
    unfold run_body.sl.r_22; rw [a1]; exact pay33_eq _ _ _
  have vb1 : run_body.sl.r_23 I c fc9 fc11 = vB I c 1 := by
    unfold run_body.sl.r_23; rw [a1']; exact pay34_eq _ _ _
  have w₀' : k0_pay35 (run_body.sl.r_9 I c s4) (run_body.sl.r_10 I c s5) (run_body.sl.r_11 I c s6)
            (run_body.sl.r_12 fc9 fc11) (run_body.sl.r_13 fc9 fc11) (run_body.sl.v354 I c) (run_body.sl.r_21 I c)
            (latent I (peer 0 c) 1) (upV I (peer 0 c)) = hBox (headB I c 1 0) := by
    rw [q1, qr1, kr1, a1, a1']; exact head0'_eq _ _ _ _ _ _ _ _ _
  have w₁' : k0_pay39 (run_body.sl.r_11 I c s6) (run_body.sl.r_24 I c fc9 fc11) (run_body.sl.r_25 I c s5)
            (run_body.sl.r_26 I c s4 fc9 fc11) = hBox (headB I c 1 1) := by
    unfold run_body.sl.r_24 run_body.sl.r_25 run_body.sl.r_26; rw [q1, qr1, kr1, a1, a1']; exact head1'_eq _ _ _ _ _ _ _ _ _
  have w₂' : k0_pay41 (run_body.sl.r_27 I c s4 s5 s6 fc9 fc11) = hBox (headB I c 1 2) := by
    unfold run_body.sl.r_27; rw [q1, qr1, kr1, kb1, vb1]; exact head2'_eq _ _ _ _ _
  have w₃' : k0_pay42 (run_body.sl.r_9 I c s4) (run_body.sl.r_10 I c s5) (run_body.sl.r_11 I c s6)
            (run_body.sl.r_22 I c fc9 fc11) (run_body.sl.r_23 I c fc9 fc11) = hBox (headB I c 1 3) := by
    rw [q1, qr1, kr1, kb1, vb1]; exact head3'_eq _ _ _ _ _
  have hst1 : (slot 3 1).view.read (Elt F) ((Memref.whole cc0_scratch13).view.writes (Elt F) f31
      [⟨Rect.unit (s := S4x2x256x256) ![3, 1, 0, 192] S1x1x256x64.size inb_S4x2x256x256_S1x1x256x64_3_1_0_192, _⟩, ⟨Rect.unit (s := S4x2x256x256) ![3, 1, 0, 128] S1x1x256x64.size inb_S4x2x256x256_S1x1x256x64_3_1_0_128, _⟩, ⟨Rect.unit (s := S4x2x256x256) ![3, 1, 0, 64] S1x1x256x64.size inb_S4x2x256x256_S1x1x256x64_3_1_0_64, _⟩, ⟨Rect.unit (s := S4x2x256x256) ![3, 1, 0, 0] S1x1x256x64.size inb_S4x2x256x256_S1x1x256x64_3_1_0_0, _⟩]) = headsB I c 1 :=
    heads_stored I c 1 f31 _ _ _ _ w₀' w₁' w₂' w₃'
  ihave Hw1 := (win_deal c 1 ![3, 1, 0, 0] inb_S4x2x256x256_S1x1x256x256_3_1_0_0 rfl _ _ hst1) $$ Hw1
  icases Hw1 with ⟨%fw1, %hfw1, Hw01, Hw11, Hw21, Hw1⟩
  iapply (wp_send_o (vals I) c _ 0 1 (dev10_eq c) 2 rfl fw1 hfw1 g01) $$ [HtO01 Hw01 Hd01 HO]
  · isplitl [HtO01]; · iexact HtO01
    isplitl [Hw01]; · iexact Hw01
    isplitl [Hd01]; · iexact Hd01
    iexact HO
  iintro ⟨HcS01, HO⟩
  sl_exec
  iapply (wp_send_o (vals I) c _ 1 1 (dev11_eq c) 1 rfl fw1 hfw1 g11) $$ [HtO11 Hw11 Hd11 HO]
  · isplitl [HtO11]; · iexact HtO11
    isplitl [Hw11]; · iexact Hw11
    isplitl [Hd11]; · iexact Hd11
    iexact HO
  iintro ⟨HcS11, HO⟩
  sl_exec
  iapply (wp_send_o (vals I) c _ 2 1 (dev12_eq c) 0 rfl fw1 hfw1 g21) $$ [HtO21 Hw21 Hd21 HO]
  · isplitl [HtO21]; · iexact HtO21
    isplitl [Hw21]; · iexact Hw21
    isplitl [Hd21]; · iexact Hd21
    iexact HO
  iintro ⟨HcS21, HO⟩
  -- the output projection over the own group of heads
  have u₀ : (Memref.whole cc0_scratch13).view.readAt (Elt F) (Rect.unit (s := S4x2x256x256) ![3, 0, 0, 0] S1x1x256x256.size inb_S4x2x256x256_S1x1x256x256_3_0_0_0).toLoadRect fw0 = oBox (headsB I c 0) :=
    load_win 3 0 _ _ rfl fw0 _ hfw0
  have u₁ : (Memref.whole cc0_scratch13).view.readAt (Elt F) (Rect.unit (s := S4x2x256x256) ![3, 1, 0, 0] S1x1x256x256.size inb_S4x2x256x256_S1x1x256x256_3_1_0_0).toLoadRect fw1 = oBox (headsB I c 1) :=
    load_win 3 1 _ _ rfl fw1 _ hfw1
  have wo0 : View.readAt (Elt F) (Memref.whole cc0_scratch7).view (Rect.unit (s := S1024x1024) (k0_off4 c) S256x1024.size (k0_off4_inb c)).toLoadRect
      ((Memref.whole cc0_scratch7).view.write (Elt F) s7 (run_body.sl.dma0_7 I c) Finset.univ) = woT I c 0 :=
    read_copied (F := F) cc0_scratch7 (wbox c 0) s7 (I c).wo
  have wo1 : View.readAt (Elt F) (Memref.whole cc0_scratch7).view (Rect.unit (s := S1024x1024) (k0_off5 c) S256x1024.size (k0_off5_inb c)).toLoadRect
      ((Memref.whole cc0_scratch7).view.write (Elt F) s7 (run_body.sl.dma0_7 I c) Finset.univ) = woT I c 1 :=
    read_copied (F := F) cc0_scratch7 (wbox c 1) s7 (I c).wo
  have wo2 : View.readAt (Elt F) (Memref.whole cc0_scratch7).view (Rect.unit (s := S1024x1024) (k0_off6 c) S256x1024.size (k0_off6_inb c)).toLoadRect
      ((Memref.whole cc0_scratch7).view.write (Elt F) s7 (run_body.sl.dma0_7 I c) Finset.univ) = woT I c 2 :=
    read_copied (F := F) cc0_scratch7 (wbox c 2) s7 (I c).wo
  have wo3 : View.readAt (Elt F) (Memref.whole cc0_scratch7).view (Rect.unit (s := S1024x1024) (k0_off7 c) S256x1024.size (k0_off7_inb c)).toLoadRect
      ((Memref.whole cc0_scratch7).view.write (Elt F) s7 (run_body.sl.dma0_7 I c) Finset.univ) = woT I c 3 :=
    read_copied (F := F) cc0_scratch7 (wbox c 3) s7 (I c).wo
  sl_exec
  ihave Hw0 := (slot_of_win c 3 0 ![3, 0, 0, 0] inb_S4x2x256x256_S1x1x256x256_3_0_0_0 rfl qRead fw0) $$ Hw0
  sl_exec
  ihave Hw1 := (slot_of_win c 3 1 ![3, 1, 0, 0] inb_S4x2x256x256_S1x1x256x256_3_1_0_0 rfl qRead fw1) $$ Hw1
  -- over the groups of the peers across `y`, `z` and both, as their outputs come in
  iapply (wp_dma_wait (vals I) c (sem := oSend 0 0) (dst := slot 3 0) 0 (by rw [oSend_val]; omega) (N := NO) rfl (dmaAmt_oSend 0 0) (by decide) (dmaPay_oSend _ c 0 0)) $$ [HwS00 HcS00 HO]
  · isplitl [HwS00]; · iexact HwS00
    isplitl [HcS00]; · iexact HcS00
    isplitl [HO]; · iexact HO
    iexact Hlev
  iintro ⟨HO, HzS00, Hv00⟩
  sl_exec
  iapply (wp_dma_wait (vals I) c (sem := oRecv 0 0) (dst := slot 0 0) 0 (by rw [oRecv_val]; omega) (N := NO) rfl (dmaAmt_oRecv 0 0) (by decide) (dmaPay_oRecv _ c 0 0)) $$ [HwR00 HcO00 HO]
  · isplitl [HwR00]; · iexact HwR00
    isplitl [HcO00]; · iexact HcO00
    isplitl [HO]; · iexact HO
    iexact Hlev
  iintro ⟨HO, HzR00, Hr00⟩
  ihave Hr00 := (recv_open (vals I) c 0 0 ![0, 0, 0, 0] inb_S4x2x256x256_S1x1x256x256_0_0_0_0 rfl) $$ Hr00
  icases Hr00 with ⟨%fq00, %hr00, Hr00⟩
  have z00 : (Memref.whole cc0_scratch13).view.readAt (Elt F) (Rect.unit (s := S4x2x256x256) ![0, 0, 0, 0] S1x1x256x256.size inb_S4x2x256x256_S1x1x256x256_0_0_0_0).toLoadRect fq00 = oBox (headsB I (peer 1 c) 0) :=
    load_win 0 0 _ _ rfl fq00 _ hr00
  sl_exec
  iapply (wp_dma_wait (vals I) c (sem := oSend 0 1) (dst := slot 3 1) 0 (by rw [oSend_val]; omega) (N := NO) rfl (dmaAmt_oSend 0 1) (by decide) (dmaPay_oSend _ c 0 1)) $$ [HwS01 HcS01 HO]
  · isplitl [HwS01]; · iexact HwS01
    isplitl [HcS01]; · iexact HcS01
    isplitl [HO]; · iexact HO
    iexact Hlev
  iintro ⟨HO, HzS01, Hv01⟩
  sl_exec
  iapply (wp_dma_wait (vals I) c (sem := oRecv 0 1) (dst := slot 0 1) 0 (by rw [oRecv_val]; omega) (N := NO) rfl (dmaAmt_oRecv 0 1) (by decide) (dmaPay_oRecv _ c 0 1)) $$ [HwR01 HcO01 HO]
  · isplitl [HwR01]; · iexact HwR01
    isplitl [HcO01]; · iexact HcO01
    isplitl [HO]; · iexact HO
    iexact Hlev
  iintro ⟨HO, HzR01, Hr01⟩
  ihave Hr01 := (recv_open (vals I) c 0 1 ![0, 1, 0, 0] inb_S4x2x256x256_S1x1x256x256_0_1_0_0 rfl) $$ Hr01
  icases Hr01 with ⟨%fq01, %hr01, Hr01⟩
  have z01 : (Memref.whole cc0_scratch13).view.readAt (Elt F) (Rect.unit (s := S4x2x256x256) ![0, 1, 0, 0] S1x1x256x256.size inb_S4x2x256x256_S1x1x256x256_0_1_0_0).toLoadRect fq01 = oBox (headsB I (peer 1 c) 1) :=
    load_win 0 1 _ _ rfl fq01 _ hr01
  sl_exec
  iapply (wp_dma_wait (vals I) c (sem := oSend 1 0) (dst := slot 3 0) 0 (by rw [oSend_val]; omega) (N := NO) rfl (dmaAmt_oSend 1 0) (by decide) (dmaPay_oSend _ c 1 0)) $$ [HwS10 HcS10 HO]
  · isplitl [HwS10]; · iexact HwS10
    isplitl [HcS10]; · iexact HcS10
    isplitl [HO]; · iexact HO
    iexact Hlev
  iintro ⟨HO, HzS10, Hv10⟩
  sl_exec
  iapply (wp_dma_wait (vals I) c (sem := oRecv 1 0) (dst := slot 1 0) 0 (by rw [oRecv_val]; omega) (N := NO) rfl (dmaAmt_oRecv 1 0) (by decide) (dmaPay_oRecv _ c 1 0)) $$ [HwR10 HcO10 HO]
  · isplitl [HwR10]; · iexact HwR10
    isplitl [HcO10]; · iexact HcO10
    isplitl [HO]; · iexact HO
    iexact Hlev
  iintro ⟨HO, HzR10, Hr10⟩
  ihave Hr10 := (recv_open (vals I) c 1 0 ![1, 0, 0, 0] inb_S4x2x256x256_S1x1x256x256_1_0_0_0 rfl) $$ Hr10
  icases Hr10 with ⟨%fq10, %hr10, Hr10⟩
  have z10 : (Memref.whole cc0_scratch13).view.readAt (Elt F) (Rect.unit (s := S4x2x256x256) ![1, 0, 0, 0] S1x1x256x256.size inb_S4x2x256x256_S1x1x256x256_1_0_0_0).toLoadRect fq10 = oBox (headsB I (peer 2 c) 0) :=
    load_win 1 0 _ _ rfl fq10 _ hr10
  sl_exec
  iapply (wp_dma_wait (vals I) c (sem := oSend 1 1) (dst := slot 3 1) 0 (by rw [oSend_val]; omega) (N := NO) rfl (dmaAmt_oSend 1 1) (by decide) (dmaPay_oSend _ c 1 1)) $$ [HwS11 HcS11 HO]
  · isplitl [HwS11]; · iexact HwS11
    isplitl [HcS11]; · iexact HcS11
    isplitl [HO]; · iexact HO
    iexact Hlev
  iintro ⟨HO, HzS11, Hv11⟩
  sl_exec
  iapply (wp_dma_wait (vals I) c (sem := oRecv 1 1) (dst := slot 1 1) 0 (by rw [oRecv_val]; omega) (N := NO) rfl (dmaAmt_oRecv 1 1) (by decide) (dmaPay_oRecv _ c 1 1)) $$ [HwR11 HcO11 HO]
  · isplitl [HwR11]; · iexact HwR11
    isplitl [HcO11]; · iexact HcO11
    isplitl [HO]; · iexact HO
    iexact Hlev
  iintro ⟨HO, HzR11, Hr11⟩
  ihave Hr11 := (recv_open (vals I) c 1 1 ![1, 1, 0, 0] inb_S4x2x256x256_S1x1x256x256_1_1_0_0 rfl) $$ Hr11
  icases Hr11 with ⟨%fq11, %hr11, Hr11⟩
  have z11 : (Memref.whole cc0_scratch13).view.readAt (Elt F) (Rect.unit (s := S4x2x256x256) ![1, 1, 0, 0] S1x1x256x256.size inb_S4x2x256x256_S1x1x256x256_1_1_0_0).toLoadRect fq11 = oBox (headsB I (peer 2 c) 1) :=
    load_win 1 1 _ _ rfl fq11 _ hr11
  sl_exec
  iapply (wp_dma_wait (vals I) c (sem := oSend 2 0) (dst := slot 3 0) 0 (by rw [oSend_val]; omega) (N := NO) rfl (dmaAmt_oSend 2 0) (by decide) (dmaPay_oSend _ c 2 0)) $$ [HwS20 HcS20 HO]
  · isplitl [HwS20]; · iexact HwS20
    isplitl [HcS20]; · iexact HcS20
    isplitl [HO]; · iexact HO
    iexact Hlev
  iintro ⟨HO, HzS20, Hv20⟩
  sl_exec
  iapply (wp_dma_wait (vals I) c (sem := oRecv 2 0) (dst := slot 2 0) 0 (by rw [oRecv_val]; omega) (N := NO) rfl (dmaAmt_oRecv 2 0) (by decide) (dmaPay_oRecv _ c 2 0)) $$ [HwR20 HcO20 HO]
  · isplitl [HwR20]; · iexact HwR20
    isplitl [HcO20]; · iexact HcO20
    isplitl [HO]; · iexact HO
    iexact Hlev
  iintro ⟨HO, HzR20, Hr20⟩
  ihave Hr20 := (recv_open (vals I) c 2 0 ![2, 0, 0, 0] inb_S4x2x256x256_S1x1x256x256_2_0_0_0 rfl) $$ Hr20
  icases Hr20 with ⟨%fq20, %hr20, Hr20⟩
  have z20 : (Memref.whole cc0_scratch13).view.readAt (Elt F) (Rect.unit (s := S4x2x256x256) ![2, 0, 0, 0] S1x1x256x256.size inb_S4x2x256x256_S1x1x256x256_2_0_0_0).toLoadRect fq20 = oBox (headsB I (peer 3 c) 0) :=
    load_win 2 0 _ _ rfl fq20 _ hr20
  sl_exec
  iapply (wp_dma_wait (vals I) c (sem := oSend 2 1) (dst := slot 3 1) 0 (by rw [oSend_val]; omega) (N := NO) rfl (dmaAmt_oSend 2 1) (by decide) (dmaPay_oSend _ c 2 1)) $$ [HwS21 HcS21 HO]
  · isplitl [HwS21]; · iexact HwS21
    isplitl [HcS21]; · iexact HcS21
    isplitl [HO]; · iexact HO
    iexact Hlev
  iintro ⟨HO, HzS21, Hv21⟩
  sl_exec
  iapply (wp_dma_wait (vals I) c (sem := oRecv 2 1) (dst := slot 2 1) 0 (by rw [oRecv_val]; omega) (N := NO) rfl (dmaAmt_oRecv 2 1) (by decide) (dmaPay_oRecv _ c 2 1)) $$ [HwR21 HcO21 HO]
  · isplitl [HwR21]; · iexact HwR21
    isplitl [HcO21]; · iexact HcO21
    isplitl [HO]; · iexact HO
    iexact Hlev
  iintro ⟨HO, HzR21, Hr21⟩
  ihave Hr21 := (recv_open (vals I) c 2 1 ![2, 1, 0, 0] inb_S4x2x256x256_S1x1x256x256_2_1_0_0 rfl) $$ Hr21
  icases Hr21 with ⟨%fq21, %hr21, Hr21⟩
  have z21 : (Memref.whole cc0_scratch13).view.readAt (Elt F) (Rect.unit (s := S4x2x256x256) ![2, 1, 0, 0] S1x1x256x256.size inb_S4x2x256x256_S1x1x256x256_2_1_0_0).toLoadRect fq21 = oBox (headsB I (peer 3 c) 1) :=
    load_win 2 1 _ _ rfl fq21 _ hr21
  set_option sl_exec.dmaWindow true in
  sl_exec
  -- the accumulator, group after group
  have v0 : run_body.sl.v549 I c = out0 I c 0 := acc_row0 _ _ _
  have p10 : k0_pay47 (run_body.sl.r_28 I c) (run_body.sl.r_29 I c) (oBox (headsB I (peer 1 c) 0)) = out1 I c 0 := by
    unfold run_body.sl.r_28 run_body.sl.r_29; rw [v0]; rfl
  have v1 : run_body.sl.v576 I c = out0 I c 1 := acc_row1 _ _ _
  have p11 : k0_pay48 (run_body.sl.r_28 I c) (run_body.sl.v576 I c) (oBox (headsB I (peer 1 c) 1)) = out1 I c 1 := by
    unfold run_body.sl.r_28; rw [v1]; rfl
  have v2 : run_body.sl.v607 I c = out1 I c 0 := (acc_row0 _ _ _).trans p10
  have p20 : k0_pay50 (run_body.sl.r_30 I c) (run_body.sl.v607 I c) (oBox (headsB I (peer 2 c) 0)) = out2 I c 0 := by
    unfold run_body.sl.r_30; rw [v2]; rfl
  have v3 : run_body.sl.v634 I c = out1 I c 1 := (acc_row1 _ _ _).trans p11
  have p21 : k0_pay51 (run_body.sl.r_30 I c) (run_body.sl.v634 I c) (oBox (headsB I (peer 2 c) 1)) = out2 I c 1 := by
    unfold run_body.sl.r_30; rw [v3]; rfl
  have v4 : run_body.sl.v665 I c = out2 I c 0 := (acc_row0 _ _ _).trans p20
  have p30 : run_body.sl.v673 I c = out3 I c 0 := by
    unfold run_body.sl.v673 run_body.sl.r_32 run_body.sl.r_31; rw [v4]; rfl
  have v5 : run_body.sl.v692 I c = out2 I c 1 := (acc_row1 _ _ _).trans p21
  have p31 : k0_pay56 (run_body.sl.r_31 I c) (run_body.sl.v693 I c) (oBox (headsB I (peer 3 c) 1)) = out3 I c 1 := by
    unfold run_body.sl.v693 run_body.sl.r_31; rw [v5]; rfl
  have d0 : ∀ y, run_body.sl.dma4 I c s8 y = out3 I c 0 (inRow (inOut 0 y)) := fun y => (acc_read s8 _ _ _ 0 y).trans (congrFun p30 _)
  have d1 : ∀ y, run_body.sl.dma4_1 I c s8 y = out3 I c 1 (inRow (inOut 1 y)) := fun y => (acc_read s8 _ _ _ 1 y).trans (congrFun p31 _)
  have hout := out_filled (F := F) o8 (outC I c) (fun b => match b with | 0 => run_body.sl.dma4 I c s8 | 1 => run_body.sl.dma4_1 I c s8)
    (fun b y => match b with | 0 => d0 y | 1 => d1 y)
  -- the shares and the buffers come together again
  ihave Hs9 := (cL_back c fc9) $$ [Hb9 Hs9]
  · isplitl [Hb9]; · iexact Hb9
    iexact Hs9
  ihave Hs11 := (kL_back c fc11) $$ [Hb11 Hs11]
  · isplitl [Hb11]; · iexact Hb11
    iexact Hs11
  unfold oSendPay
  ihave Hw0 := (win_of_slot c 3 0 ![3, 0, 0, 0] inb_S4x2x256x256_S1x1x256x256_3_0_0_0 rfl qRead fw0) $$ Hw0
  ihave Hw0 := (win_regain c 0 ![3, 0, 0, 0] inb_S4x2x256x256_S1x1x256x256_3_0_0_0 rfl fw0) $$ [Hv00 Hv10 Hv20 Hw0]
  · isplitl [Hv00]; · iexact Hv00
    isplitl [Hv10]; · iexact Hv10
    isplitl [Hv20]; · iexact Hv20
    iexact Hw0
  ihave Hw1 := (win_of_slot c 3 1 ![3, 1, 0, 0] inb_S4x2x256x256_S1x1x256x256_3_1_0_0 rfl qRead fw1) $$ Hw1
  ihave Hw1 := (win_regain c 1 ![3, 1, 0, 0] inb_S4x2x256x256_S1x1x256x256_3_1_0_0 rfl fw1) $$ [Hv01 Hv11 Hv21 Hw1]
  · isplitl [Hv01]; · iexact Hv01
    isplitl [Hv11]; · iexact Hv11
    isplitl [Hv21]; · iexact Hv21
    iexact Hw1
  ihave Hr00 := (slot_of_win c 0 0 ![0, 0, 0, 0] inb_S4x2x256x256_S1x1x256x256_0_0_0_0 rfl fullShare fq00) $$ Hr00
  ihave Hr01 := (slot_of_win c 0 1 ![0, 1, 0, 0] inb_S4x2x256x256_S1x1x256x256_0_1_0_0 rfl fullShare fq01) $$ Hr01
  ihave Hr10 := (slot_of_win c 1 0 ![1, 0, 0, 0] inb_S4x2x256x256_S1x1x256x256_1_0_0_0 rfl fullShare fq10) $$ Hr10
  ihave Hr11 := (slot_of_win c 1 1 ![1, 1, 0, 0] inb_S4x2x256x256_S1x1x256x256_1_1_0_0 rfl fullShare fq11) $$ Hr11
  ihave Hr20 := (slot_of_win c 2 0 ![2, 0, 0, 0] inb_S4x2x256x256_S1x1x256x256_2_0_0_0 rfl fullShare fq20) $$ Hr20
  ihave Hr21 := (slot_of_win c 2 1 ![2, 1, 0, 0] inb_S4x2x256x256_S1x1x256x256_2_1_0_0 rfl fullShare fq21) $$ Hr21
  sl_step
  iapply Hk
  unfold donePts argPts scratchPts winPts localSems exchSems someAt
  isplitl [Ha0 Ha1 Ha2 Ha3 Ha4 Ha5 Ha6 Ha7]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  isplitl [Hout]
  · have hh : (held c main_v1 _ : sProp 𝕄) ⊢ held c main_v1 (outC I c) := Entails.of_eq (congrArg (held c main_v1) hout)
    iapply hh; iexact Hout
  isplitl [Hs0 Hs1 Hs2 Hs3 Hs4 Hs5 Hs6 Hs7 Hs8 Hs9 Hs10 Hs11 Hs12 Hw0 Hw1 Hr00 Hr01 Hr10 Hr11 Hr20 Hr21]
  · isplitl [Hs0 Hs1 Hs2 Hs3 Hs4 Hs5 Hs6 Hs7 Hs8 Hs9 Hs11]
    · isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      isplitl [Hs6]; · iexists _; iexact Hs6
      isplitl [Hs7]; · iexists _; iexact Hs7
      isplitl [Hs8]; · iexists _; iexact Hs8
      isplitl [Hs9]; · iexists _; iexact Hs9
      iexists _; iexact Hs11
    isplitl [Hs10]; · iexists _; iexact Hs10
    isplitl [Hs12]; · iexists _; iexact Hs12
    isplitl [Hw0]; · iexact Hw0
    isplitl [Hw1]; · iexact Hw1
    isplitl [Hr00]; · iexists _; iexact Hr00
    isplitl [Hr01]; · iexists _; iexact Hr01
    isplitl [Hr10]; · iexists _; iexact Hr10
    isplitl [Hr11]; · iexists _; iexact Hr11
    isplitl [Hr20]; · iexists _; iexact Hr20
    iexists _; iexact Hr21
  isplitr [HzB HO]
  · isplitl [Hl0 Hl1 Hl2 Hl3 Hl4 Hl5 Hl6 Hl7 Hst0 Hst1]
    · isplitl [Hl0 Hl1 Hl2 Hl3 Hl4 Hl5 Hl6 Hl7]
      · isplitl [Hl0]; · iexact Hl0
        isplitl [Hl1]; · iexact Hl1
        isplitl [Hl2]; · iexact Hl2
        isplitl [Hl3]; · iexact Hl3
        isplitl [Hl4]; · iexact Hl4
        isplitl [Hl5]; · iexact Hl5
        isplitl [Hl6]; · iexact Hl6
        iexact Hl7
      isplitl [Hst0]; · iexact Hst0
      iexact Hst1
    isplitl [HzXs0 HzXs1 HzXr0 HzXr1]
    · isplitl [HzXs0]; · iexact HzXs0
      isplitl [HzXs1]; · iexact HzXs1
      isplitl [HzXr0]; · iexact HzXr0
      iexact HzXr1
    isplitl [HzS00 HzS01 HzS10 HzS11 HzS20 HzS21]
    · isplitl [HzS00]; · iexact HzS00
      isplitl [HzS01]; · iexact HzS01
      isplitl [HzS10]; · iexact HzS10
      isplitl [HzS11]; · iexact HzS11
      isplitl [HzS20]; · iexact HzS20
      iexact HzS21
    isplitl [HzR00]; · iexact HzR00
    isplitl [HzR01]; · iexact HzR01
    isplitl [HzR10]; · iexact HzR10
    isplitl [HzR11]; · iexact HzR11
    isplitl [HzR20]; · iexact HzR20
    iexact HzR21
  isplitl [HzB]; · iexact HzB
  iexists _; iexact HO

end Cert.Mla

end
-- ==== Proof.Ghost.lean ====
/-
# The launch: what each device is dealt

Seventeen semaphores of each device carry the protocol: the barrier and the sixteen of the transfers. The launch mints
their rounds and the tokens of their duties, and deals every token to the device that pays the duty.
-/
module

public import proofs.«01_k».proof.Proof.Body
public import Idealize.ShloMosaic.Lib.Pipeline.Frame
public import Idealize.ShloMosaic.Lib.Pipeline.CollectiveSegs

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Args F)

/-! ## The semaphores -/

omit [FloatOps F] in
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
omit [FloatOps F] in
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- The kernel's own semaphores: the twenty-six of its copies and transfers. -/
abbrev osem : Fin 26 → SemLoc sig := fun i => .dma i
theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = iprop(semVal (cell c (.dma 0)) 0 ∗ semVal (cell c (.dma 1)) 0 ∗ semVal (cell c (.dma 2)) 0 ∗ semVal (cell c (.dma 3)) 0 ∗ semVal (cell c (.dma 4)) 0 ∗ semVal (cell c (.dma 5)) 0 ∗ semVal (cell c (.dma 6)) 0 ∗ semVal (cell c (.dma 7)) 0 ∗ semVal (cell c (.dma 8)) 0 ∗ semVal (cell c (.dma 9)) 0 ∗ semVal (cell c (.dma 10)) 0 ∗ semVal (cell c (.dma 11)) 0 ∗ semVal (cell c (.dma 12)) 0 ∗ semVal (cell c (.dma 13)) 0 ∗ semVal (cell c (.dma 14)) 0 ∗ semVal (cell c (.dma 15)) 0 ∗ semVal (cell c (.dma 16)) 0 ∗ semVal (cell c (.dma 17)) 0 ∗ semVal (cell c (.dma 18)) 0 ∗ semVal (cell c (.dma 19)) 0 ∗ semVal (cell c (.dma 20)) 0 ∗ semVal (cell c (.dma 21)) 0 ∗ semVal (cell c (.dma 22)) 0 ∗ semVal (cell c (.dma 23)) 0 ∗ semVal (cell c (.dma 24)) 0 ∗ semVal (cell c (.dma 25)) 0) :=
  Pipeline.ownSems0_eq_of_list c osem [0, 1, 2, 3, 4, 5, 6, 7, 8, 9, 10, 11, 12, 13, 14, 15, 16, 17, 18, 19, 20, 21, 22, 23, 24, 25] (by decide) (by decide)
omit [FloatOps F] in
theorem unscopedSems0_eq (c : Dev nD) : (unscopedSems0 c : sProp 𝕄) = semVal (cell c (.reg barS)) 0 := by
  unfold unscopedSems0; rw [bigSep_eq_bigSepL_of_eq [SemLoc.reg barS] (by decide) (by decide)]; rfl

omit [FloatOps F] in
/-- They are those of the local copies and those of the exchange. -/
theorem ownSems_open (c : Dev nD) : (Pipeline.ownSems0 (Ix := Unit) (Name := ℕ) (U := UU) (Lvl := ℕ) (Val := Elt F) (τ := τ) osem c : sProp 𝕄)
    ⊢ iprop(localSems (F := F) c ∗ exchSems (F := F) c) := by
  rw [ownSems0_eq]
  unfold localSems exchSems
  iintro ⟨l0, l1, l2, l3, l4, l5, l6, l7, t0, t1, xs0, xs1, xr0, xr1, os00, os01, os10, os11, os20, os21, or00, or01, or10, or11, or20, or21⟩
  isplitl [l0 l1 l2 l3 l4 l5 l6 l7 t0 t1]
  · isplitl [l0 l1 l2 l3 l4 l5 l6 l7]
    · isplitl [l0]; · iexact l0
      isplitl [l1]; · iexact l1
      isplitl [l2]; · iexact l2
      isplitl [l3]; · iexact l3
      isplitl [l4]; · iexact l4
      isplitl [l5]; · iexact l5
      isplitl [l6]; · iexact l6
      iexact l7
    isplitl [t0]; · iexact t0
    iexact t1
  isplitl [xs0 xs1 xr0 xr1]
  · isplitl [xs0]; · iexact xs0
    isplitl [xs1]; · iexact xs1
    isplitl [xr0]; · iexact xr0
    iexact xr1
  isplitl [os00 os01 os10 os11 os20 os21]
  · isplitl [os00]; · iexact os00
    isplitl [os01]; · iexact os01
    isplitl [os10]; · iexact os10
    isplitl [os11]; · iexact os11
    isplitl [os20]; · iexact os20
    iexact os21
  isplitl [or00]; · iexact or00
  isplitl [or01]; · iexact or01
  isplitl [or10]; · iexact or10
  isplitl [or11]; · iexact or11
  isplitl [or20]; · iexact or20
  iexact or21
omit [FloatOps F] in
theorem ownSems_close (c : Dev nD) : iprop(localSems (F := F) c ∗ exchSems (F := F) c)
    ⊢ (Pipeline.ownSems0 (Ix := Unit) (Name := ℕ) (U := UU) (Lvl := ℕ) (Val := Elt F) (τ := τ) osem c : sProp 𝕄) := by
  rw [ownSems0_eq]
  unfold localSems exchSems
  iintro ⟨⟨⟨l0, l1, l2, l3, l4, l5, l6, l7⟩, t0, t1⟩, ⟨xs0, xs1, xr0, xr1⟩, ⟨os00, os01, os10, os11, os20, os21⟩, or00, or01, or10, or11, or20, or21⟩
  isplitl [l0]; · iexact l0
  isplitl [l1]; · iexact l1
  isplitl [l2]; · iexact l2
  isplitl [l3]; · iexact l3
  isplitl [l4]; · iexact l4
  isplitl [l5]; · iexact l5
  isplitl [l6]; · iexact l6
  isplitl [l7]; · iexact l7
  isplitl [t0]; · iexact t0
  isplitl [t1]; · iexact t1
  isplitl [xs0]; · iexact xs0
  isplitl [xs1]; · iexact xs1
  isplitl [xr0]; · iexact xr0
  isplitl [xr1]; · iexact xr1
  isplitl [os00]; · iexact os00
  isplitl [os01]; · iexact os01
  isplitl [os10]; · iexact os10
  isplitl [os11]; · iexact os11
  isplitl [os20]; · iexact os20
  isplitl [os21]; · iexact os21
  isplitl [or00]; · iexact or00
  isplitl [or01]; · iexact or01
  isplitl [or10]; · iexact or10
  isplitl [or11]; · iexact or11
  isplitl [or20]; · iexact or20
  iexact or21

/-! ## The cells and the tokens -/

/-- The protocol's semaphores, the barrier first. -/
abbrev csem : Fin 17 → SemLoc sig := ![.reg barS, .dma (xSend 0), .dma (xSend 1), .dma (xRecv 0), .dma (xRecv 1), .dma (oSend 0 0), .dma (oSend 0 1), .dma (oSend 1 0), .dma (oSend 1 1), .dma (oSend 2 0), .dma (oSend 2 1), .dma (oRecv 0 0), .dma (oRecv 0 1), .dma (oRecv 1 0), .dma (oRecv 1 1), .dma (oRecv 2 0), .dma (oRecv 2 1)]
theorem csem_inj : Function.Injective csem := by decide
abbrev kcell (ck : Dev nD × Fin 17) : GSem nD τ sig := cell ck.1 (csem ck.2)
theorem kcell_inj : Function.Injective kcell := by
  rintro ⟨c, k⟩ ⟨c', k'⟩ h
  have h₁ : c = c' := congrArg (fun g : GSem nD τ sig => g.1.1) h
  have h₂ : k = k' := csem_inj (congrArg Prod.snd h)
  rw [h₁, h₂]
def cells : Finset (GSem nD τ sig) := Finset.univ.map ⟨kcell, kcell_inj⟩

/-- A device's duties: four of the barrier, one of each other semaphore. -/
abbrev tk : Fin 20 → SemLoc sig × Fin 4 := ![(.reg barS, 0), (.reg barS, 1), (.reg barS, 2), (.reg barS, 3), (.dma (xSend 0), 0), (.dma (xSend 1), 0), (.dma (xRecv 0), 0), (.dma (xRecv 1), 0), (.dma (oSend 0 0), 0), (.dma (oSend 0 1), 0), (.dma (oSend 1 0), 0), (.dma (oSend 1 1), 0), (.dma (oSend 2 0), 0), (.dma (oSend 2 1), 0), (.dma (oRecv 0 0), 0), (.dma (oRecv 0 1), 0), (.dma (oRecv 1 0), 0), (.dma (oRecv 1 1), 0), (.dma (oRecv 2 0), 0), (.dma (oRecv 2 1), 0)]
theorem tk_inj : Function.Injective tk := by decide
abbrev tokOf (cj : Dev nD × Fin 20) : GSem nD τ sig × ℕ × Fin 4 := (cell cj.1 (tk cj.2).1, 0, (tk cj.2).2)
theorem tokOf_inj : Function.Injective tokOf := by
  rintro ⟨c, j⟩ ⟨c', j'⟩ h
  have h₁ : c = c' := congrArg (fun x : GSem nD τ sig × ℕ × Fin 4 => x.1.1.1) h
  have h₂ : j = j' := tk_inj (Prod.ext (congrArg (fun x : GSem nD τ sig × ℕ × Fin 4 => x.1.2) h) (congrArg (fun x : GSem nD τ sig × ℕ × Fin 4 => x.2.2) h))
  rw [h₁, h₂]
def tokens : Finset (GSem nD τ sig × ℕ × Fin 4) := Finset.univ.map ⟨tokOf, tokOf_inj⟩

/-- Who pays a duty: a peer (a barrier's duty, a landing from elsewhere), or the device itself (the end of its own send). -/
abbrev payD : Fin 20 → Option (Fin 4) := ![some 0, some 1, some 2, some 3, none, none, some 0, some 0, none, none, none, none, none, none,
  some 1, some 1, some 2, some 2, some 3, some 3]
abbrev payer (j : Fin 20) (c : Dev nD) : Dev nD := match payD j with | none => c | some d => peer d c
theorem payer_payer (j : Fin 20) (c : Dev nD) : payer j (payer j c) = c := by
  unfold payer; cases payD j with
  | none => rfl
  | some d => exact peer_peer d c
/-- A duty seen from the device that has it and from the device that pays it. -/
def swap : Dev nD × Fin 20 ≃ Dev nD × Fin 20 where
  toFun p := (payer p.2 p.1, p.2)
  invFun p := (payer p.2 p.1, p.2)
  left_inv p := Prod.ext (payer_payer p.2 p.1) rfl
  right_inv p := Prod.ext (payer_payer p.2 p.1) rfl

def u₀ : UU := (initOf (Pipeline.cells cfgs cellOf_inj) (Pipeline.launchToks cfgs cellOf_inj), (initOf cells tokens, 1))

/-- The tokens of the duties device `c` has, and of those it pays. -/
def toks (c : Dev nD) : sProp 𝕄 := bigSep Finset.univ fun j : Fin 20 => dutyTok ER (cell c (tk j).1) 0 (tk j).2
def payToks (c : Dev nD) : sProp 𝕄 := bigSep Finset.univ fun j : Fin 20 => dutyTok ER (cell (payer j c) (tk j).1) 0 (tk j).2

omit [FloatOps F] in
/-- Every device's tokens, dealt to the payers. -/
theorem toks_dealt : (bigSep Finset.univ fun c : Dev nD => (toks (F := F) c : sProp 𝕄)) = bigSep Finset.univ fun c : Dev nD => payToks (F := F) c := by
  unfold toks payToks
  rw [← bigSep_univ_prod (fun p : Dev nD × Fin 20 => (dutyTok ER (cell p.1 (tk p.2).1) 0 (tk p.2).2 : sProp 𝕄)),
    ← bigSep_univ_prod (fun p : Dev nD × Fin 20 => (dutyTok ER (cell (payer p.2 p.1) (tk p.2).1) 0 (tk p.2).2 : sProp 𝕄)),
    bigSep_univ_equiv swap]
  rfl

/-- What the launch deals device `c`: its cells' rounds, its place in each, its duties' tokens. -/
def G (c : Dev nD) : sProp 𝕄 :=
  iprop((bigSep Finset.univ fun k : Fin 17 => roundState ER (rd (vals I)) (kcell (c, k)) 0)
    ∗ (bigSep Finset.univ fun k : Fin 17 => atPos ER (kcell (c, k)) 0 ∅ 0) ∗ (bigSep Finset.univ fun k : Fin 17 => reached ER (kcell (c, k)) 0) ∗ toks (F := F) c)

theorem fund : BI.own (ER (initOf cells tokens)) ⊢ (|==> bigSep Finset.univ (G I) : sProp 𝕄) := by
  have hX (Φ : GSem nD τ sig → sProp 𝕄) : bigSep cells Φ = bigSep Finset.univ fun c : Dev nD => bigSep Finset.univ fun k : Fin 17 => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks (F := F) c := by
    unfold tokens toks; rw [bigSep_map, bigSep_univ_prod]; rfl
  iintro HX
  imod (Rounds.fund ER (rd (vals I)) cells tokens) $$ HX with ⟨Hst, Hr, Hat, Htok⟩
  imodintro
  ihave Hst := (Entails.of_eq (hX fun g => roundState ER (rd (vals I)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-! ## The invariants -/

omit [FloatOps F] in
theorem cells_zero (c : Dev nD) : iprop(exchSems (F := F) c ∗ semVal (cell c (.reg barS)) 0)
    ⊢ (bigSep Finset.univ fun k : Fin 17 => semVal (kcell (c, k)) 0 : sProp 𝕄) := by
  rw [bigSep_fin17]
  unfold exchSems
  iintro ⟨⟨⟨xs0, xs1, xr0, xr1⟩, ⟨os00, os01, os10, os11, os20, os21⟩, or00, or01, or10, or11, or20, or21⟩, b⟩
  isplitl [b]; · iexact b
  isplitl [xs0]; · iexact xs0
  isplitl [xs1]; · iexact xs1
  isplitl [xr0]; · iexact xr0
  isplitl [xr1]; · iexact xr1
  isplitl [os00]; · iexact os00
  isplitl [os01]; · iexact os01
  isplitl [os10]; · iexact os10
  isplitl [os11]; · iexact os11
  isplitl [os20]; · iexact os20
  isplitl [os21]; · iexact os21
  isplitl [or00]; · iexact or00
  isplitl [or01]; · iexact or01
  isplitl [or10]; · iexact or10
  isplitl [or11]; · iexact or11
  isplitl [or20]; · iexact or20
  iexact or21

/-- The cells' invariants and reached rounds, of every device. -/
def records : sProp 𝕄 :=
  iprop((bigSep Finset.univ fun ck : Dev nD × Fin 17 => iprop(∃ κ : ℕ, cellInv ER (rd (vals I)) κ (kcell ck)))
    ∗ bigSep Finset.univ fun ck : Dev nD × Fin 17 => reached ER (kcell ck) 0)
instance records_persistent : BI.Persistent (records I) := by unfold records; infer_instance

theorem inv_at (ck : Dev nD × Fin 17) : (bigSep Finset.univ fun ck : Dev nD × Fin 17 => (iprop(∃ κ : ℕ, cellInv ER (rd (vals I)) κ (kcell ck)) : sProp 𝕄))
    ⊢ iprop(∃ κ : ℕ, cellInv ER (rd (vals I)) κ (kcell ck)) := bigSep_elim (Finset.mem_univ ck)
omit [FloatOps F] in
theorem reached_at (ck : Dev nD × Fin 17) : (bigSep Finset.univ fun ck : Dev nD × Fin 17 => (reached ER (kcell ck) 0 : sProp 𝕄)) ⊢ reached ER (kcell ck) 0 :=
  bigSep_elim (Finset.mem_univ ck)

/-- From the records and a duty's token: what a signal of a barrier, what a transfer, what a wait takes. -/
theorem sig_intro (c : Dev nD) (d : Fin 4) : iprop(records I ∗ dutyTok ER (cell (peer d c) (.reg barS)) 0 d) ⊢ sigR (vals I) c d := by
  unfold records sigR
  iintro ⟨⟨#HI, #HR⟩, Ht⟩
  ihave Hi := (inv_at I (peer d c, 0)) $$ HI
  icases Hi with ⟨%κ, #Hi⟩
  iexists κ
  isplitr; · iexact Hi
  isplitl [Ht]; · iexact Ht
  iapply (reached_at (F := F) (peer d c, 0)); iexact HR
theorem send_intro (c : Dev nD) (d : Fin 4) (k k' : Fin 17) :
    iprop(records I ∗ dutyTok ER (cell c (csem k)) 0 0 ∗ dutyTok ER (cell (peer d c) (csem k')) 0 0) ⊢ sendR (vals I) c (csem k) d (csem k') := by
  unfold records sendR
  iintro ⟨⟨#HI, #HR⟩, Ht, Ht'⟩
  isplitr; · iapply (inv_at I (c, k)); iexact HI
  isplitr; · iapply (inv_at I (peer d c, k')); iexact HI
  isplitl [Ht]; · iexact Ht
  isplitr; · iapply (reached_at (F := F) (c, k)); iexact HR
  isplitl [Ht']; · iexact Ht'
  iapply (reached_at (F := F) (peer d c, k')); iexact HR
theorem wait_intro (c : Dev nD) (k : Fin 17) : iprop(records I ∗ atPos ER (kcell (c, k)) 0 ∅ 0) ⊢ waitR (vals I) c (csem k) := by
  unfold records waitR
  iintro ⟨⟨#HI, #HR⟩, Ha⟩
  ihave Hi := (inv_at I (c, k)) $$ HI
  icases Hi with ⟨%κ, #Hi⟩
  iexists κ
  isplitr; · iexact Hi
  iexact Ha

/-- Device `c`'s share of the launch: its local semaphores, and what its signals, transfers and waits take. -/
def G' (c : Dev nD) : sProp 𝕄 :=
  iprop(localSems (F := F) c ∗ (bigSep Finset.univ fun k : Fin 17 => waitR (vals I) c (csem k))
    ∗ (sigR (vals I) c 0 ∗ sigR (vals I) c 1 ∗ sigR (vals I) c 2 ∗ sigR (vals I) c 3)
    ∗ (sendR (vals I) c (.dma (xSend 0)) 0 (.dma (xRecv 0)) ∗ sendR (vals I) c (.dma (xSend 1)) 0 (.dma (xRecv 1)))
    ∗ sendR (vals I) c (.dma (oSend 0 0)) 1 (.dma (oRecv 0 0)) ∗ sendR (vals I) c (.dma (oSend 0 1)) 1 (.dma (oRecv 0 1)) ∗ sendR (vals I) c (.dma (oSend 1 0)) 2 (.dma (oRecv 1 0)) ∗ sendR (vals I) c (.dma (oSend 1 1)) 2 (.dma (oRecv 1 1)) ∗ sendR (vals I) c (.dma (oSend 2 0)) 3 (.dma (oRecv 2 0)) ∗ sendR (vals I) c (.dma (oSend 2 1)) 3 (.dma (oRecv 2 1)))

theorem share_intro (c : Dev nD) :
    iprop(records I ∗ localSems (F := F) c ∗ (bigSep Finset.univ fun k : Fin 17 => atPos ER (kcell (c, k)) 0 ∅ 0) ∗ payToks (F := F) c) ⊢ G' I c := by
  unfold payToks G'
  rw [bigSep_fin20]
  iintro ⟨#HR, Hl, Hat, b0, b1, b2, b3, xs0, xs1, xr0, xr1, os00, os01, os10, os11, os20, os21, or00, or01, or10, or11, or20, or21⟩
  isplitl [Hl]; · iexact Hl
  isplitl [Hat]
  · iapply (bigSep_with_persistent (R := records I) (S := Finset.univ) (Φ := fun k : Fin 17 => atPos ER (kcell (c, k)) 0 ∅ 0) fun k _ => wait_intro I c k)
    isplitr; · iexact HR
    iexact Hat
  isplitl [b0 b1 b2 b3]
  · isplitl [b0]
    · iapply (sig_intro I c 0); isplitr; · iexact HR
      iexact b0
    isplitl [b1]
    · iapply (sig_intro I c 1); isplitr; · iexact HR
      iexact b1
    isplitl [b2]
    · iapply (sig_intro I c 2); isplitr; · iexact HR
      iexact b2
    iapply (sig_intro I c 3); isplitr; · iexact HR
    iexact b3
  isplitl [xs0 xs1 xr0 xr1]
  · isplitl [xs0 xr0]
    · iapply (send_intro I c 0 1 3); isplitr; · iexact HR
      isplitl [xs0]; · iexact xs0
      iexact xr0
    iapply (send_intro I c 0 2 4); isplitr; · iexact HR
    isplitl [xs1]; · iexact xs1
    iexact xr1
  isplitl [os00 or00]
  · iapply (send_intro I c 1 5 11); isplitr; · iexact HR
    isplitl [os00]; · iexact os00
    iexact or00
  isplitl [os01 or01]
  · iapply (send_intro I c 1 6 12); isplitr; · iexact HR
    isplitl [os01]; · iexact os01
    iexact or01
  isplitl [os10 or10]
  · iapply (send_intro I c 2 7 13); isplitr; · iexact HR
    isplitl [os10]; · iexact os10
    iexact or10
  isplitl [os11 or11]
  · iapply (send_intro I c 2 8 14); isplitr; · iexact HR
    isplitl [os11]; · iexact os11
    iexact or11
  isplitl [os20 or20]
  · iapply (send_intro I c 3 9 15); isplitr; · iexact HR
    isplitl [os20]; · iexact os20
    iexact or20
  iapply (send_intro I c 3 10 16); isplitr; · iexact HR
  isplitl [os21]; · iexact os21
  iexact or21

/-- On each device the cells' invariants are allocated. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop(localSems (F := F) c ∗ (bigSep Finset.univ fun k : Fin 17 => iprop(∃ κ : ℕ, cellInv ER (rd (vals I)) κ (kcell (c, k))))
          ∗ (bigSep Finset.univ fun k : Fin 17 => atPos ER (kcell (c, k)) 0 ∅ 0) ∗ (bigSep Finset.univ fun k : Fin 17 => reached ER (kcell (c, k)) 0)
          ∗ toks (F := F) c) := by
  unfold G
  rw [unscopedSems0_eq]
  iintro ⟨Hos, Hus, Hst, Hat, Hr, Htok⟩
  ihave Hos := (ownSems_open (F := F) c) $$ Hos
  icases Hos with ⟨Hl, Hx⟩
  ihave Hv := (cells_zero (F := F) c) $$ [Hx Hus]
  · isplitl [Hx] <;> iassumption
  imod (show iprop((bigSep Finset.univ fun k : Fin 17 => semVal (kcell (c, k)) 0) ∗ bigSep Finset.univ fun k : Fin 17 => roundState ER (rd (vals I)) (kcell (c, k)) 0)
      ⊢ (|={Set.univ}=> bigSep Finset.univ fun k => iprop(∃ κ : ℕ, cellInv ER (rd (vals I)) κ (kcell (c, k))) : sProp 𝕄) from by
        rw [← bigSep_sep']
        exact (bigSep_mono fun k _ => (Rounds.body_intro ER (rd (vals I)) (kcell (c, k))).trans inv_alloc).trans (bigSep_fupd _ _)) $$ [Hv Hst] with Hinv
  · isplitl [Hv] <;> iassumption
  imodintro
  isplitl [Hl]; · iexact Hl
  isplitl [Hinv]; · iexact Hinv
  isplitl [Hat]; · iexact Hat
  isplitl [Hr] <;> iassumption

/-- From every device's part to every device's share. -/
theorem regroup :
    (bigSep Finset.univ fun c : Dev nD => iprop(localSems (F := F) c ∗ (bigSep Finset.univ fun k : Fin 17 => iprop(∃ κ : ℕ, cellInv ER (rd (vals I)) κ (kcell (c, k))))
          ∗ (bigSep Finset.univ fun k : Fin 17 => atPos ER (kcell (c, k)) 0 ∅ 0) ∗ (bigSep Finset.univ fun k : Fin 17 => reached ER (kcell (c, k)) 0)
          ∗ toks (F := F) c) : sProp 𝕄)
      ⊢ bigSep Finset.univ (G' I) := by
  rw [bigSep_sep', bigSep_sep', bigSep_sep', bigSep_sep', toks_dealt,
    ← bigSep_univ_prod (fun ck : Dev nD × Fin 17 => iprop(∃ κ : ℕ, cellInv ER (rd (vals I)) κ (kcell ck))),
    ← bigSep_univ_prod (fun ck : Dev nD × Fin 17 => (reached ER (kcell ck) 0 : sProp 𝕄))]
  iintro ⟨Hl, #HI, Hat, #HR, Htok⟩
  iapply (bigSep_with_persistent (R := records I) (S := Finset.univ) (Φ := fun c : Dev nD => iprop(localSems (F := F) c
    ∗ (bigSep Finset.univ fun k : Fin 17 => atPos ER (kcell (c, k)) 0 ∅ 0) ∗ payToks (F := F) c)) fun c _ => share_intro I c)
  isplitr
  · unfold records; isplitl; · iexact HI
    iexact HR
  rw [bigSep_sep', bigSep_sep']
  isplitl [Hl]; · iexact Hl
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch's credit -/

/-- The credit of a device's own semaphores for the last `n` payments of the schedule. -/
def credsOf (c : Dev nD) : ℕ → sProp 𝕄
  | 0 => iprop(emp)
  | n + 1 => iprop(credsOf c n ∗ cred (tallyAt (cell c (ev n).2.1) () (ev n).2.2))

omit [FloatOps F] in
/-- A device's credit under what every device owes: for each payment, its own semaphore's amount. -/
theorem creds_owe (c : Dev nD) : ∀ n : ℕ, (Pipeline.launchCred (fun d => owe d n) c : sProp 𝕄) ⊢ credsOf (F := F) c n
  | 0 => Entails.of_eq (Pipeline.launchCred_zero c)
  | n + 1 => (Entails.of_eq (Pipeline.launchCred_add (fun d => owe d n) (fun d => tallyAt (evCell d n) () (ev n).2.2) c)).trans
      (BI.sep_mono (creds_owe c n) (Pipeline.launchCred_tallyAt (ev n).2.1 (peer (ev n).1) (peer (ev n).1) (peer_peer _) (peer_peer _) () (ev n).2.2 c))

end Cert.Mla

end
-- ==== Proof.Launch.lean ====
/-
# The launch and the run

Every device runs the one body from its share of the launch. Whatever the float values are: the program ends in every
order of its steps, each device's result is the one `outC` names of what its arguments held, no argument has changed,
and every counter stands at zero.
-/
module

public import proofs.«01_k».proof.Proof.Ghost
public import Idealize.ShloMosaic.Lib.Pipeline.Frame
public import Idealize.ShloMosaic.Lib.Pipeline.CollectiveSegs

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

local notation "𝕄" => MT nD τ sig Unit (Elt F) ℕ UU ℕ

variable (m : (ℓ : Loc nD τ sig) → Buf (Elt F) ℓ) (ρ : Dev nD → PrngReg)

/-- What the arguments of device `c` hold in memory `m`. -/
def argsOf (c : Dev nD) : Args F where
  x := m ((c : Thread nD τ).loc main_arg0)
  wdkv := m ((c : Thread nD τ).loc main_arg1)
  wuk := m ((c : Thread nD τ).loc main_arg2)
  wuv := m ((c : Thread nD τ).loc main_arg3)
  wq := m ((c : Thread nD τ).loc main_arg4)
  wqr := m ((c : Thread nD τ).loc main_arg5)
  wkr := m ((c : Thread nD τ).loc main_arg6)
  wo := m ((c : Thread nD τ).loc main_arg7)

/-! ## The output buffer, whole and in its eight windows -/

/-- The elements of a window. -/
theorem slot_set (t : Fin 4 × Fin 2) : (slot t.1 t.2).view.set = (Rect.unit (s := S4x2x256x256) ![t.1.val, t.2.val, 0, 0] S1x1x256x256.size (slot_inb t.1 t.2)).set :=
  (View.set_reshape _ _).trans (View.set_slice_whole _ _)
theorem mem_slot (t : Fin 4 × Fin 2) (i : S4x2x256x256.Idx) : Iff (i ∈ (slot t.1 t.2).view.set) ((i 0).val = t.1.val ∧ (i 1).val = t.2.val) := by
  rw [slot_set, Rect.mem_set_unit]
  have h2 : (i 2).val < 256 := (i 2).isLt
  have h3 : (i 3).val < 256 := (i 3).isLt
  constructor
  · intro h
    have h0 : t.1.val ≤ (i 0).val ∧ (i 0).val < t.1.val + 1 := h 0
    have h1 : t.2.val ≤ (i 1).val ∧ (i 1).val < t.2.val + 1 := h 1
    omega
  · rintro ⟨h0, h1⟩ a
    match a with
    | 0 => show t.1.val ≤ (i 0).val ∧ (i 0).val < t.1.val + 1; omega
    | 1 => show t.2.val ≤ (i 1).val ∧ (i 1).val < t.2.val + 1; omega
    | 2 => show 0 ≤ (i 2).val ∧ (i 2).val < 0 + 256; omega
    | 3 => show 0 ≤ (i 3).val ∧ (i 3).val < 0 + 256; omega
theorem slots_disjoint : ∀ t ∈ (Finset.univ : Finset (Fin 4 × Fin 2)), ∀ t' ∈ (Finset.univ : Finset (Fin 4 × Fin 2)), t ≠ t' →
    Disjoint ((slot t.1 t.2).view.set) ((slot t'.1 t'.2).view.set) := fun t _ t' _ hne =>
  Finset.disjoint_left.mpr fun i hi hi' => hne (Prod.ext (Fin.ext (((mem_slot t i).mp hi).1.symm.trans ((mem_slot t' i).mp hi').1))
    (Fin.ext (((mem_slot t i).mp hi).2.symm.trans ((mem_slot t' i).mp hi').2)))
theorem slots_cover : (Finset.univ : Finset (Fin 4 × Fin 2)).biUnion (fun t => (slot t.1 t.2).view.set) = (Finset.univ : Finset S4x2x256x256.Idx) :=
  Finset.eq_univ_iff_forall.mpr fun i => Finset.mem_biUnion.mpr ⟨(⟨(i 0).val, (i 0).isLt⟩, ⟨(i 1).val, (i 1).isLt⟩), Finset.mem_univ _, (mem_slot _ i).mpr ⟨rfl, rfl⟩⟩

omit [FloatOps F] in
theorem bigSep_windows (Φ : Fin 4 × Fin 2 → sProp 𝕄) : bigSep Finset.univ Φ
    = iprop((Φ (0, 0) ∗ Φ (0, 1)) ∗ (Φ (1, 0) ∗ Φ (1, 1)) ∗ (Φ (2, 0) ∗ Φ (2, 1)) ∗ Φ (3, 0) ∗ Φ (3, 1)) := by
  rw [bigSep_univ_prod Φ, bigSep_univ_eq_bigSepL [0, 1, 2, 3] (by decide) (by decide) (fun j : Fin 4 => bigSep Finset.univ fun b : Fin 2 => Φ (j, b))]
  show iprop(bigSep Finset.univ (fun b : Fin 2 => Φ (0, b)) ∗ bigSep Finset.univ (fun b : Fin 2 => Φ (1, b)) ∗ bigSep Finset.univ (fun b : Fin 2 => Φ (2, b))
    ∗ bigSep Finset.univ (fun b : Fin 2 => Φ (3, b))) = _
  have h (j : Fin 4) : bigSep Finset.univ (fun b : Fin 2 => Φ (j, b)) = iprop(Φ (j, 0) ∗ Φ (j, 1)) :=
    bigSep_univ_eq_bigSepL [0, 1] (by decide) (by decide) fun b : Fin 2 => Φ (j, b)
  rw [h, h, h, h]

omit [FloatOps F] in
theorem windows_open (c : Dev nD) (f : S4x2x256x256.Idx → Elt F .bf16) : (((c : Thread nD τ).loc cc0_scratch13) ↦{fullShare} f : sProp 𝕄)
    ⊢ bigSep Finset.univ fun t : Fin 4 × Fin 2 => slotPts (F := F) c t.1 t.2 fullShare f := by
  have h := pointsTo_biUnion (Ix := Unit) (Name := ℕ) (U := UU) (Lvl := ℕ) (ℓ := (c : Thread nD τ).loc cc0_scratch13) (q := fullShare) (f := f) (Finset.univ : Finset (Fin 4 × Fin 2))
    (fun t => (slot t.1 t.2).view.set) slots_disjoint
  rw [slots_cover] at h
  exact Entails.of_eq h
omit [FloatOps F] in
theorem windows_close (c : Dev nD) (f₀ : S4x2x256x256.Idx → Elt F .bf16) : (bigSep Finset.univ fun t : Fin 4 × Fin 2 => iprop(∃ f, slotPts (F := F) c t.1 t.2 fullShare f) : sProp 𝕄)
    ⊢ iprop(∃ f : Buf (Elt F) ((c : Thread nD τ).loc cc0_scratch13), ((c : Thread nD τ).loc cc0_scratch13) ↦{fullShare} f) := by
  haveI : Nonempty (S4x2x256x256.Idx → Elt F .bf16) := ⟨f₀⟩
  iintro H
  ihave H := (BI.bigSep_exists_pi Finset.univ (fun (t : Fin 4 × Fin 2) f => slotPts (F := F) c t.1 t.2 fullShare f)) $$ H
  icases H with ⟨%fs, H⟩
  have h := pointsTo_biUnion_join (Ix := Unit) (Name := ℕ) (U := UU) (Lvl := ℕ) (ℓ := (c : Thread nD τ).loc cc0_scratch13) (q := fullShare) (Finset.univ : Finset (Fin 4 × Fin 2))
    (fun t => (slot t.1 t.2).view.set) fs f₀ slots_disjoint
  rw [slots_cover] at h
  have h' : (bigSep Finset.univ fun t : Fin 4 × Fin 2 => (slotPts (F := F) c t.1 t.2 fullShare (fs t) : sProp 𝕄)) ⊢ _ := h
  ihave H := h' $$ H
  icases H with ⟨%g, -, H⟩
  iexists g; iexact H

/-! ## The resources around the body -/

/-- Every scratch buffer of the device. -/
def buffers (c : Dev nD) : sProp 𝕄 := iprop(scratchPts (F := F) c ∗ landPts (F := F) c ∗ (∃ f, slotPts (F := F) c 3 0 fullShare f) ∗ ∃ f, slotPts (F := F) c 3 1 fullShare f)

omit [FloatOps F] in
theorem buffers_intro (c : Dev nD) : (Pipeline.scopedRest (Ix := Unit) (Name := ℕ) (U := UU) (Lvl := ℕ) (Val := Elt F) cfg0.spec c : sProp 𝕄) ⊢ buffers (F := F) c := by
  rw [scopedRest0_eq]
  unfold buffers scratchPts landPts someAt barPay
  rw [peer_peer, peer_peer, peer_peer, peer_peer]
  iintro ⟨s0, s1, s2, s3, s4, s5, s6, s7, s8, s9, s10, s11, s12, ⟨%f, s13⟩⟩
  ihave s13 := (windows_open (F := F) c f) $$ s13
  ihave s13 := (Entails.of_eq (bigSep_windows fun t : Fin 4 × Fin 2 => slotPts (F := F) c t.1 t.2 fullShare f)) $$ s13
  icases s13 with ⟨⟨w00, w01⟩, ⟨w10, w11⟩, ⟨w20, w21⟩, w30, w31⟩
  isplitl [s0 s1 s2 s3 s4 s5 s6 s7 s8 s9 s11]
  · isplitl [s0]; · iexact s0
    isplitl [s1]; · iexact s1
    isplitl [s2]; · iexact s2
    isplitl [s3]; · iexact s3
    isplitl [s4]; · iexact s4
    isplitl [s5]; · iexact s5
    isplitl [s6]; · iexact s6
    isplitl [s7]; · iexact s7
    isplitl [s8]; · iexact s8
    isplitl [s9]; · iexact s9
    iexact s11
  isplitl [s10 s12 w00 w01 w10 w11 w20 w21]
  · isplitl [s10 s12]
    · isplitl [s10]; · iexact s10
      iexact s12
    isplitl [w00 w01]
    · isplitl [w00]; · iexists f; iexact w00
      iexists f; iexact w01
    isplitl [w10 w11]
    · isplitl [w10]; · iexists f; iexact w10
      iexists f; iexact w11
    isplitl [w20]; · iexists f; iexact w20
    iexists f; iexact w21
  isplitl [w30]; · iexists f; iexact w30
  iexists f; iexact w31

omit [FloatOps F] in
theorem buffers_elim (c : Dev nD) : iprop(scratchPts (F := F) c ∗ someAt (F := F) c cc0_scratch10 ∗ someAt (F := F) c cc0_scratch12 ∗ winPts (F := F) c)
    ⊢ (Pipeline.scopedRest (Ix := Unit) (Name := ℕ) (U := UU) (Lvl := ℕ) (Val := Elt F) cfg0.spec c : sProp 𝕄) := by
  rw [scopedRest0_eq]
  unfold scratchPts winPts someAt
  iintro ⟨⟨s0, s1, s2, s3, s4, s5, s6, s7, s8, s9, s11⟩, s10, s12, w30, w31, w00, w01, w10, w11, w20, w21⟩
  isplitl [s0]; · iexact s0
  isplitl [s1]; · iexact s1
  isplitl [s2]; · iexact s2
  isplitl [s3]; · iexact s3
  isplitl [s4]; · iexact s4
  isplitl [s5]; · iexact s5
  isplitl [s6]; · iexact s6
  isplitl [s7]; · iexact s7
  isplitl [s8]; · iexact s8
  isplitl [s9]; · iexact s9
  isplitl [s10]; · iexact s10
  isplitl [s11]; · iexact s11
  isplitl [s12]; · iexact s12
  icases w00 with ⟨%f, w00⟩
  iapply (windows_close (F := F) c f)
  rw [bigSep_windows]
  isplitl [w00 w01]
  · isplitl [w00]; · iexists f; iexact w00
    iexact w01
  isplitl [w10 w11]
  · isplitl [w10]; · iexact w10
    iexact w11
  isplitl [w20 w21]
  · isplitl [w20]; · iexact w20
    iexact w21
  isplitl [w30]; · iexact w30
  iexact w31

omit [FloatOps F] in
/-- Four credits of one unit are one of four. -/
theorem units_join (c : Dev nD) : iprop(cred (tallyAt (cell c (.reg barS)) () 1) ∗ cred (tallyAt (cell c (.reg barS)) () 1) ∗ cred (tallyAt (cell c (.reg barS)) () 1)
    ∗ cred (tallyAt (cell c (.reg barS)) () 1)) ⊢ (cred (tallyAt (cell c (.reg barS)) () 4) : sProp 𝕄) := by
  rw [show (tallyAt (cell c (.reg barS)) () 4 : CellTallies nD τ sig Unit) = tallyAt (cell c (.reg barS)) () 1 + (tallyAt (cell c (.reg barS)) () 1
    + (tallyAt (cell c (.reg barS)) () 1 + tallyAt (cell c (.reg barS)) () 1)) by rw [tallyAt_add, tallyAt_add, tallyAt_add]]
  refine BI.Entails.trans ?_ (cred_add _ _).2
  refine BI.sep_mono (BI.Entails.refl _) (BI.Entails.trans ?_ (cred_add _ _).2)
  exact BI.sep_mono (BI.Entails.refl _) (cred_add _ _).2

/-- What a device holds of the protocol, with the launch's credit. -/
def protocol (c : Dev nD) : sProp 𝕄 := iprop(localSems (F := F) c ∗ barRes (argsOf m) c ∗ xRes (argsOf m) c ∗ oResAll (argsOf m) c)

theorem protocol_intro (c : Dev nD) : iprop(G' (argsOf m) c ∗ Pipeline.launchCred (fun d => owe d 12) c) ⊢ protocol m c := by
  refine (BI.sep_mono (BI.Entails.refl _) (creds_owe (F := F) c 12)).trans ?_
  show iprop(G' (argsOf m) c ∗ credsOf (F := F) c 12) ⊢ protocol m c
  unfold G' protocol barRes xRes oResAll oRes
  rw [bigSep_fin17]
  simp only [credsOf]
  iintro ⟨⟨Hl, ⟨wB, wxs0, wxs1, wxr0, wxr1, ws00, ws01, ws10, ws11, ws20, ws21, wr00, wr01, wr10, wr11, wr20, wr21⟩, ⟨g0, g1, g2, g3⟩, ⟨tx0, tx1⟩, t00, t01, t10, t11, t20, t21⟩,
    ⟨⟨⟨⟨⟨⟨⟨⟨⟨⟨⟨⟨-, c21⟩, c11⟩, c01⟩, c20⟩, c10⟩, c00⟩, cx1⟩, cx0⟩, b3⟩, b2⟩, b1⟩, b0⟩⟩
  ihave b := (units_join (F := F) c) $$ [b0 b1 b2 b3]
  · isplitl [b0]; · iexact b0
    isplitl [b1]; · iexact b1
    isplitl [b2]; · iexact b2
    iexact b3
  isplitl [Hl]; · iexact Hl
  isplitl [g0 g1 g2 g3 wB b]
  · isplitl [g0]; · iexact g0
    isplitl [g1]; · iexact g1
    isplitl [g2]; · iexact g2
    isplitl [g3]; · iexact g3
    isplitl [wB]; · iexact wB
    iexact b
  isplitl [tx0 tx1 wxs0 wxr0 wxs1 wxr1 cx0 cx1]
  · isplitl [tx0]; · iexact tx0
    isplitl [tx1]; · iexact tx1
    isplitl [wxs0]; · iexact wxs0
    isplitl [wxr0]; · iexact wxr0
    isplitl [wxs1]; · iexact wxs1
    isplitl [wxr1]; · iexact wxr1
    isplitl [cx0]; · iexact cx0
    iexact cx1
  isplitl [t00 ws00 wr00 c00]
  · isplitl [t00]; · iexact t00
    isplitl [ws00]; · iexact ws00
    isplitl [wr00]; · iexact wr00
    iexact c00
  isplitl [t10 ws10 wr10 c10]
  · isplitl [t10]; · iexact t10
    isplitl [ws10]; · iexact ws10
    isplitl [wr10]; · iexact wr10
    iexact c10
  isplitl [t20 ws20 wr20 c20]
  · isplitl [t20]; · iexact t20
    isplitl [ws20]; · iexact ws20
    isplitl [wr20]; · iexact wr20
    iexact c20
  isplitl [t01 ws01 wr01 c01]
  · isplitl [t01]; · iexact t01
    isplitl [ws01]; · iexact ws01
    isplitl [wr01]; · iexact wr01
    iexact c01
  isplitl [t11 ws11 wr11 c11]
  · isplitl [t11]; · iexact t11
    isplitl [ws11]; · iexact ws11
    isplitl [wr11]; · iexact wr11
    iexact c11
  isplitl [t21]; · iexact t21
  isplitl [ws21]; · iexact ws21
  isplitl [wr21]; · iexact wr21
  iexact c21

/-- The arguments and the result's buffer as launched. -/
theorem arrays_intro (c : Dev nD) :
    (Pipeline.unscopedRestP (Ix := Unit) (Name := ℕ) (U := UU) (Lvl := ℕ) Pipeline.Prefetch.none cfg0.spec c (fun b => m ((c : Thread nD τ).loc b)) : sProp 𝕄)
      ⊢ iprop(argPts (argsOf m) c ∗ someAt (F := F) c main_v1) := by
  rw [Pipeline.unscopedRestP_none, unscopedRest0_eq]
  unfold argPts someAt
  iintro ⟨a0, a1, a2, a3, a4, a5, a6, a7, v⟩
  isplitl [a0 a1 a2 a3 a4 a5 a6 a7]
  · isplitl [a0]; · iexact a0
    isplitl [a1]; · iexact a1
    isplitl [a2]; · iexact a2
    isplitl [a3]; · iexact a3
    isplitl [a4]; · iexact a4
    isplitl [a5]; · iexact a5
    isplitl [a6]; · iexact a6
    iexact a7
  iexists _; iexact v

/-- What the body of device `c` starts from, beside its scratch buffers. -/
def start (c : Dev nD) : sProp 𝕄 := iprop(levAts L lv ∗ (argPts (argsOf m) c ∗ someAt (F := F) c main_v1) ∗ protocol m c)
def Φ₀ (c : Dev nD) : sProp 𝕄 := iprop(start m c ∗ buffers (F := F) c)
/-- What leaves the kernel: the arguments, the result, the barrier's counter. -/
def results (c : Dev nD) : sProp 𝕄 := iprop((argPts (argsOf m) c ∗ held c main_v1 (outC (argsOf m) c)) ∗ unscopedSems0 c)
def Φ₁ (c : Dev nD) : sProp 𝕄 := iprop(results m c ∗ Pipeline.ownSems0 osem c ∗ Pipeline.scopedRest cfg0.spec c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owe c 12
    | ⟨_ + 1, _⟩ => 0

theorem done_elim (c : Dev nD) : donePts (argsOf m) c ⊢ iprop(Φ₁ m c ∗ ∃ W, owes (c : Thread nD τ) (owe c 0) W) := by
  unfold donePts Φ₁ results
  rw [unscopedSems0_eq]
  iintro ⟨Ha, Hv, Hb, Hs, HB, Ho⟩
  isplitr [Ho]
  · isplitl [Ha Hv HB]
    · isplitl [Ha Hv]
      · isplitl [Ha] <;> iassumption
      iexact HB
    isplitl [Hs]
    · iapply (ownSems_close (F := F) c); iexact Hs
    iapply (buffers_elim (F := F) c); iexact Hb
  iexact Ho

/-- The body, as the launch runs it. -/
theorem body_obligation (c : Dev nD) : BodyObligation (dats (F := F) m 0 c) (defs₀ (F := F)) 𝒱₀ () Set.univ := fun t => by
  rw [fin_N0 t]
  show iprop(Φ₀ m c ∗ (∃ W, ⌜_⌝ ∗ owes (c : Thread nD τ) (owe c 12) W) ∗ _) ⊢ wp frame (wpE (defs₀ (F := F)) 𝒱₀ (c : Thread nD τ) none) Set.univ (bodyAt0 (F := F) t0_0) fun _ =>
    iprop(Φ₁ m c ∗ (∃ W, ⌜_⌝ ∗ owes (c : Thread nD τ) 0 W) ∗ _)
  unfold Φ₀ start buffers protocol
  iintro ⟨⟨⟨Hlev, ⟨Ha, Hv⟩, Hl, HB, HX, HO⟩, Hs, Hp, Hw0, Hw1⟩, ⟨%W, -, Ho⟩, Hst⟩
  iapply (run_body (argsOf m) c W)
  isplitl [Hlev]; · iexact Hlev
  isplitl [Ho]; · iexact Ho
  isplitl [Ha]; · iexact Ha
  isplitl [Hv]; · iexact Hv
  isplitl [Hs]; · iexact Hs
  isplitl [Hl]; · iexact Hl
  isplitl [Hp]; · iexact Hp
  isplitl [Hw0]; · iexact Hw0
  isplitl [Hw1]; · iexact Hw1
  isplitl [HB]; · iexact HB
  isplitl [HX]; · iexact HX
  isplitl [HO]; · iexact HO
  iintro Hd
  ihave Hd := (done_elim m c) $$ Hd
  icases Hd with ⟨H₁, ⟨%W', Ho⟩⟩
  isplitl [H₁]; · iexact H₁
  isplitl [Ho]
  · iexists W'
    isplitr; · ipureintro; exact fun _ _ => Or.inl trivial
    iexact Ho
  iexact Hst

theorem share_eq (c : Dev nD) (w : Fin cfg0.W) : (dats (F := F) m 0 c).share w = fullShare := w.elim0

theorem waits (c : Dev nD) : (levAts L lv : sProp 𝕄) ⊢ Pipeline.cellsWaits cfgs (dats m) () 0 c :=
  Pipeline.cellsWaits_intro cfgs (dats m) () 0 c fun w s t => w.elim0

/-- What a final memory has at device `c`. -/
def Final (c : Dev nD) (s : MemSt nD τ sig (Elt F)) : Prop :=
  (s.mem ((c : Thread nD τ).loc main_v1) = outC (argsOf m) c)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

theorem read_one (c : Dev nD) (b : Ref sig .tc) (f : Buf (Elt F) ((c : Thread nD τ).loc b)) (s : Phys nD τ sig (Elt F)) :
    iprop((((c : Thread nD τ).loc b) ↦{fullShare} f) ∗ SI s) ⊢ (iprop(⌜s.mem.mem ((c : Thread nD τ).loc b) = f⌝ ∗ SI s) : sProp 𝕄) := by
  iintro ⟨Hi, HSI⟩
  icombine HSI Hi gives %h
  isplitr; · ipureintro; exact Buf.eq_of_forall_mem_univ h
  iexact HSI

/-- What the results say of the memory they are held of. -/
theorem results_read (c : Dev nD) (s : Phys nD τ sig (Elt F)) :
    iprop(results m c ∗ SI s) ⊢ (|={Set.univ}=> iprop(⌜Final m c s.mem ∧ ∀ sm : SemLoc sig, sm.isScoped .tc = false → s.mem.sem ((c.tc : Thread nD τ), sm) = 0⌝ ∗ SI s) : sProp 𝕄) := by
  unfold results argPts
  iintro ⟨⟨⟨⟨a0, a1, a2, a3, a4, a5, a6, a7⟩, v⟩, Hu⟩, HSI⟩
  ihave H := (read_one c main_v1 _ s) $$ [v HSI]
  · isplitl [v]; · iexact v
    iexact HSI
  icases H with ⟨%hv, HSI⟩
  ihave H := (read_one c main_arg0 _ s) $$ [a0 HSI]
  · isplitl [a0]; · iexact a0
    iexact HSI
  icases H with ⟨%ha0, HSI⟩
  ihave H := (read_one c main_arg1 _ s) $$ [a1 HSI]
  · isplitl [a1]; · iexact a1
    iexact HSI
  icases H with ⟨%ha1, HSI⟩
  ihave H := (read_one c main_arg2 _ s) $$ [a2 HSI]
  · isplitl [a2]; · iexact a2
    iexact HSI
  icases H with ⟨%ha2, HSI⟩
  ihave H := (read_one c main_arg3 _ s) $$ [a3 HSI]
  · isplitl [a3]; · iexact a3
    iexact HSI
  icases H with ⟨%ha3, HSI⟩
  ihave H := (read_one c main_arg4 _ s) $$ [a4 HSI]
  · isplitl [a4]; · iexact a4
    iexact HSI
  icases H with ⟨%ha4, HSI⟩
  ihave H := (read_one c main_arg5 _ s) $$ [a5 HSI]
  · isplitl [a5]; · iexact a5
    iexact HSI
  icases H with ⟨%ha5, HSI⟩
  ihave H := (read_one c main_arg6 _ s) $$ [a6 HSI]
  · isplitl [a6]; · iexact a6
    iexact HSI
  icases H with ⟨%ha6, HSI⟩
  ihave H := (read_one c main_arg7 _ s) $$ [a7 HSI]
  · isplitl [a7]; · iexact a7
    iexact HSI
  icases H with ⟨%ha7, HSI⟩
  imod (Pipeline.unscopedSems0_read (X := unscopedSems0 c) (c := c) fupd_intro s) $$ [Hu HSI] with ⟨%hs, HSI⟩
  · isplitl [Hu] <;> iassumption
  imodintro
  isplitr; · ipureintro; exact ⟨⟨hv, ha0, ha1, ha2, ha3, ha4, ha5, ha6, ha7⟩, hs⟩
  iexact HSI

/-- The launch's element: the pipeline's part and every device's deal. -/
theorem launch_split : (ownU u₀ : sProp 𝕄) ⊢ |={Set.univ}=> iprop(BI.own (EP (initOf (Pipeline.cells cfgs cellOf_inj) (Pipeline.launchToks cfgs cellOf_inj))) ∗ bigSep Finset.univ (G (argsOf m))) := by
  unfold u₀
  iintro Hu
  ihave H := (ownU_pair _ _) $$ Hu
  icases H with ⟨HP, HX⟩
  have hp : (BI.own (embR (initOf cells tokens, (1 : Counters))) : sProp 𝕄) ⊢ BI.own (ER (initOf cells tokens)) :=
    (own_pair_emb (embR : Emb (UB × Counters) 𝕄) (initOf cells tokens) (1 : Counters)).trans sep_elim_left
  ihave HX := hp $$ HX
  imod (fund (argsOf m)) $$ HX with HG
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred (fun d => owe d 12) c ∗ prngReg c (ρ c) ∗ G' (argsOf m) c)
      ⊢ |={Set.univ}=> iprop(start m c ∗ emp) := by
  iintro ⟨Hr, Hlev, Hcr, -, HG⟩
  imodintro
  isplitl
  · unfold start
    isplitl [Hlev]; · iexact Hlev
    isplitl [Hr]; · iapply (arrays_intro m c); iexact Hr
    iapply (protocol_intro m c)
    isplitl [HG] <;> iassumption
  · iempintro

theorem entry (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (buffers_intro (F := F) c); iexact Hr

set_option maxRecDepth 8000 in
/-- Whatever the float values: every fair run of the eight devices ends, each device's result is the one `outC` names, the
    arguments are unchanged, and every semaphore's counter is zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := fun d => owe d 12) (howed₀ := fun _ => rfl) (howedN := fun _ => rfl)
    (L := L) (lv := lv) (hL := L_of_ne) (hwaits := waits m)
    (G := G (argsOf m)) (G' := G' (argsOf m)) (u₀ := u₀)
    (hu₀ := launch_split m)
    (hglob := glob (argsOf m))
    (hA := fun _ w => w.elim0) (hpf := fun _ k => k.elim0)
    (X := start m) (Y := results m) (Z := fun _ => iprop(emp))
    (hX := start_intro m ρ) (hin := entry m) (hout := fun c => BI.Entails.refl _)
    (QY := fun c s => Final m c s ∧ ∀ sm : SemLoc sig, sm.isScoped .tc = false → s.sem ((c.tc : Thread nD τ), sm) = 0)
    (hY := fun c s' => by
      iintro ⟨Hr, -, HSI⟩
      iapply (results_read m c s')
      isplitl [Hr] <;> iassumption)
    (hQ := fun _ h hs => ⟨fun c => (h c).2.2.1, sem_eq_zero hs fun c => (h c).2.2.2⟩)

end Cert.Mla

end
-- ==== Proof.Attention.lean ====
/-
# Latent attention over whole arrays

The function both programs compute, as plain sums over the extended reals: the latent projection, keys and values out of
it, queries, the two score products, the softmax of a row, the heads, the output projection.
-/
module

public import Idealize.ShloMosaic.Lib.Pointwise

@[expose] public section

noncomputable section

namespace Cert.Mla

open Idealize.ShloMosaic

/-- An extended real. -/
abbrev R := Ideal .f32

/-- The eight whole arrays. -/
structure Whole where
  x : Fin 2 → Fin 256 → Fin 1024 → R
  wdkv : Fin 1024 → Fin 128 → R
  wuk : Fin 128 → Fin 1024 → R
  wuv : Fin 128 → Fin 1024 → R
  wq : Fin 1024 → Fin 1024 → R
  wqr : Fin 1024 → Fin 512 → R
  wkr : Fin 1024 → Fin 32 → R
  wo : Fin 1024 → Fin 1024 → R

/-- A row's softmax at `t`, its maximum subtracted first. -/
def soft (f : Fin 256 → R) (t : Fin 256) : R :=
  Ideal.div (Ideal.exp (f t - Finset.univ.fold max (Ideal.ofBits .f32 0xFF800000#32) f))
    (∑ u, Ideal.exp (f u - Finset.univ.fold max (Ideal.ofBits .f32 0xFF800000#32) f))

/-- A score from the two products' factors. -/
def scored (q k : Fin 64 → R) (qr kr : Fin 32 → R) : R :=
  ((∑ j, q j * k j) + ∑ j, qr j * kr j) * Ideal.ofBits .f32 0x3DD105EC#32

/-- Column `j` of head `h` among the columns of all heads; likewise of the rotary queries. -/
def col (h : Fin 16) (j : Fin 64) : Fin 1024 := ⟨h.val * 64 + j.val, by omega⟩
def rcol (h : Fin 16) (j : Fin 32) : Fin 512 := ⟨h.val * 32 + j.val, by omega⟩
/-- The head of a column, and the place in it. -/
def headOf (n : Fin 1024) : Fin 16 := ⟨n.val / 64, by omega⟩
def placeOf (n : Fin 1024) : Fin 64 := ⟨n.val % 64, by omega⟩

namespace Whole

variable (W : Whole)

def lat (b : Fin 2) (s : Fin 256) (e : Fin 128) : R := ∑ d, W.x b s d * W.wdkv d e
def keys (b : Fin 2) (t : Fin 256) (n : Fin 1024) : R := ∑ e, W.lat b t e * W.wuk e n
def values (b : Fin 2) (t : Fin 256) (n : Fin 1024) : R := ∑ e, W.lat b t e * W.wuv e n
def queries (b : Fin 2) (s : Fin 256) (n : Fin 1024) : R := ∑ d, W.x b s d * W.wq d n
def rqueries (b : Fin 2) (s : Fin 256) (n : Fin 512) : R := ∑ d, W.x b s d * W.wqr d n
def rkeys (b : Fin 2) (t : Fin 256) (j : Fin 32) : R := ∑ d, W.x b t d * W.wkr d j

def score (b : Fin 2) (h : Fin 16) (s t : Fin 256) : R :=
  scored (fun j => W.queries b s (col h j)) (fun j => W.keys b t (col h j)) (fun j => W.rqueries b s (rcol h j)) (W.rkeys b t)
def head (b : Fin 2) (h : Fin 16) (s : Fin 256) (j : Fin 64) : R := ∑ t, soft (W.score b h s) t * W.values b t (col h j)
/-- All heads' outputs side by side. -/
def heads (b : Fin 2) (s : Fin 256) (n : Fin 1024) : R := W.head b (headOf n) s (placeOf n)
def out (b : Fin 2) (s : Fin 256) (n : Fin 1024) : R := ∑ k, W.heads b s k * W.wo k n

end Whole

end Cert.Mla

end
-- ==== Proof.KernelValue.lean ====
/-
# What a device computes

Every device holding its blocks of the whole arrays, the values it stores and receives are blocks of latent attention over
the whole arrays: keys and values by the two halves of the latent axis, heads of the own group, and the output as the sum
over the four groups.
-/
module

public import proofs.«01_k».proof.Proof.Values
public import proofs.«01_k».proof.Proof.Attention

@[expose] public section

noncomputable section

namespace Cert.Mla

open Cert.KernelIdeal Cert.KernelIdeal.Gen
open Idealize.ShloMosaic

/-! ## Places in the whole arrays -/

/-- Position `e` of a device's half of the latent axis. -/
def half (c : Dev nD) (e : Fin 64) : Fin 128 := ⟨64 * (c.val / 4) + e.val, by have h : c.val < 8 := c.isLt; omega⟩
/-- A device's group of four heads. -/
def grp (c : Dev nD) : Fin 4 := ⟨2 * (c.val / 2 % 2) + c.val % 2, by omega⟩
/-- Column `n` of a device's group, among all columns; among those of the rotary queries; head `h` of the group. -/
def gcol (g : Fin 4) (n : Fin 256) : Fin 1024 := ⟨256 * g.val + n.val, by omega⟩
def grcol (g : Fin 4) (n : Fin 128) : Fin 512 := ⟨128 * g.val + n.val, by omega⟩
def ghead (g h : Fin 4) : Fin 16 := ⟨4 * g.val + h.val, by omega⟩

/-- The device whose group is the `j`th that a device adds: itself, then the peers across `y`, `z`, both. -/
def source (c : Dev nD) (j : Fin 4) : Dev nD := match j with | 0 => c | 1 => peer 1 c | 2 => peer 2 c | 3 => peer 3 c

theorem grp_peer0 : ∀ c : Dev nD, grp (peer 0 c) = grp c := by decide
theorem groups_all : ∀ c : Dev nD, Function.Bijective fun j => grp (source c j) := by decide
theorem halves : ∀ c : Dev nD, (c.val / 4 = 0 ∧ (peer 0 c).val / 4 = 1) ∨ (c.val / 4 = 1 ∧ (peer 0 c).val / 4 = 0) := by decide

theorem wbox_rows : ∀ (c : Dev nD) (j : Fin 4), ((match j with | 0 => k0_off4 c | 1 => k0_off5 c | 2 => k0_off6 c | 3 => k0_off7 c) : Fin 2 → Nat)
    = ![256 * (grp (source c j)).val, 0] := by
  intro c j
  match j with
  | 0 => simp only [k0_off4_eq]; revert c; decide
  | 1 => simp only [k0_off5_eq]; revert c; decide
  | 2 => simp only [k0_off6_eq]; revert c; decide
  | 3 => simp only [k0_off7_eq]; revert c; decide

/-- A place in a box of a rank-2 array. -/
theorem box_place {m n m' n' : Nat} (o : Fin 2 → Nat) (h : ∀ a, o a + (![m', n'] : Fin 2 → Nat) a ≤ (⟨2, ![m, n]⟩ : Shape).size a)
    (i : Fin m') (j : Fin n') (i' : Fin m) (j' : Fin n) (hi : o 0 + i.val = i'.val) (hj : o 1 + j.val = j'.val) :
    (Rect.unit (s := ⟨2, ![m, n]⟩) o ![m', n'] h).emb (ix2 i j) = ix2 i' j' := by
  refine funext fun a => Fin.ext ?_
  match a with
  | ⟨0, _⟩ => exact (show o 0 + 1 * i.val = i'.val by omega)
  | ⟨1, _⟩ => exact (show o 1 + 1 * j.val = j'.val by omega)

/-! ## Sums over the whole axes -/

/-- The latent axis by a device's half and its peer's. -/
theorem sum_halves (c : Dev nD) (f : Fin 128 → R) : (∑ e, f (half c e)) + ∑ e, f (half (peer 0 c) e) = ∑ e, f e := by
  have h : ∑ e, f e = (∑ e : Fin 64, f ⟨e.val, by omega⟩) + ∑ e : Fin 64, f ⟨64 + e.val, by omega⟩ := Fin.sum_univ_add (a := 64) (b := 64) f
  have lo (d : Dev nD) (hd : d.val / 4 = 0) : ∑ e, f (half d e) = ∑ e : Fin 64, f ⟨e.val, by omega⟩ :=
    Finset.sum_congr rfl fun e _ => congrArg f (Fin.ext (show 64 * (d.val / 4) + e.val = e.val by omega))
  have hi (d : Dev nD) (hd : d.val / 4 = 1) : ∑ e, f (half d e) = ∑ e : Fin 64, f ⟨64 + e.val, by omega⟩ :=
    Finset.sum_congr rfl fun e _ => congrArg f (Fin.ext (show 64 * (d.val / 4) + e.val = 64 + e.val by omega))
  rcases halves c with ⟨a, b⟩ | ⟨a, b⟩
  · rw [h, lo c a, hi _ b]
  · rw [h, hi c a, lo _ b, add_comm]

/-- The columns of all heads by groups. -/
theorem sum_groups (f : Fin 1024 → R) : ∑ g, ∑ n, f (gcol g n) = ∑ k, f k := by
  rw [← Fintype.sum_prod_type' (f := fun g n => f (gcol g n))]
  exact Fintype.sum_equiv (finProdFinEquiv (m := 4) (n := 256)) _ _ fun p =>
    congrArg f (Fin.ext (show 256 * p.1.val + p.2.val = p.2.val + 256 * p.1.val by omega))

/-- A device's own group first, then its peers' groups: all groups. -/
theorem sum_sources (c : Dev nD) (f : Fin 4 → R) :
    f (grp c) + f (grp (peer 1 c)) + f (grp (peer 2 c)) + f (grp (peer 3 c)) = ∑ g, f g := by
  rw [← (groups_all c).sum_comp f, Fin.sum_univ_four]
  rfl

/-! ## A head -/

theorem attn_apply (q k v : FVec Ideal S256x64 .bf16) (qr kr : FVec Ideal S256x32 .bf16) (s : Fin 256) (j : Fin 64) :
    attn q k v qr kr (ix2 s j)
      = ∑ t, soft (fun t => scored (fun j => q (ix2 s j)) (fun j => k (ix2 t j)) (fun j => qr (ix2 s j)) (fun j => kr (ix2 t j))) t * v (ix2 t j) := by
  pointwise [attn, soft, scored]

/-- Column `j` of head `h` of a group, among the group's columns. -/
def hcol (h : Fin 4) (j : Fin 64) : Fin 256 := ⟨64 * h.val + j.val, by omega⟩
def hrcol (h : Fin 4) (j : Fin 32) : Fin 128 := ⟨32 * h.val + j.val, by omega⟩

theorem slice64_apply (h : Fin 4) (v : FVec Ideal S256x256 .bf16) (s : Fin 256) (j : Fin 64) :
    extractStridedSlice S256x64 ![0, 64 * h.val] v (slices64 h) (ix2 s j) = v (ix2 s (hcol h j)) := by
  pointwise [hcol]
theorem slice32_apply (h : Fin 4) (v : FVec Ideal S256x128 .bf16) (s : Fin 256) (j : Fin 32) :
    extractStridedSlice S256x32 ![0, 32 * h.val] v (slices32 h) (ix2 s j) = v (ix2 s (hrcol h j)) := by
  pointwise [hrcol]

theorem headAt_apply (h : Fin 4) (q k v : FVec Ideal S256x256 .bf16) (qr : FVec Ideal S256x128 .bf16) (kr : FVec Ideal S256x32 .bf16)
    (s : Fin 256) (j : Fin 64) :
    headAt h q k v qr kr (ix2 s j)
      = ∑ t, soft (fun t => scored (fun j => q (ix2 s (hcol h j))) (fun j => k (ix2 t (hcol h j))) (fun j => qr (ix2 s (hrcol h j)))
          (fun j => kr (ix2 t j))) t * v (ix2 t (hcol h j)) := by
  simp only [headAt, attn_apply, slice64_apply, slice32_apply]

/-! ## The blocks -/

/-- Every device's arguments are its blocks of the whole arrays. -/
structure Blocks (W : Whole) (I : Dev nD → Args Ideal) : Prop where
  x : ∀ c b s d, (I c).x (ix3 b s d) = W.x b s d
  wdkv : ∀ c d e, (I c).wdkv (ix2 d e) = W.wdkv d (half c e)
  wuk : ∀ c e n, (I c).wuk (ix2 e n) = W.wuk (half c e) n
  wuv : ∀ c e n, (I c).wuv (ix2 e n) = W.wuv (half c e) n
  wq : ∀ c d n, (I c).wq (ix2 d n) = W.wq d n
  wqr : ∀ c d n, (I c).wqr (ix2 d n) = W.wqr d n
  wkr : ∀ c d n, (I c).wkr (ix2 d n) = W.wkr d n
  wo : ∀ c k n, (I c).wo (ix2 k n) = W.wo k n

variable {W : Whole} {I : Dev nD → Args Ideal} (B : Blocks W I) (c : Dev nD) (b : Fin 2)
include B

theorem xB_apply (s : Fin 256) (d : Fin 1024) : xB I c b (ix3 0 s d) = W.x b s d := by
  have e : (xbox b).emb (ix3 (0 : Fin 1) s d) = ix3 b s d := by
    refine funext fun a => Fin.ext ?_
    match a with
    | ⟨0, _⟩ => exact (show b.val + 1 * 0 = b.val by omega)
    | ⟨1, _⟩ => exact (show 0 + 1 * s.val = s.val by omega)
    | ⟨2, _⟩ => exact (show 0 + 1 * d.val = d.val by omega)
  exact (congrArg (I c).x e).trans (B.x c b s d)

theorem latent_apply (s : Fin 256) (e : Fin 64) : latent I c b (ix3 0 s e) = W.lat b s (half c e) := by
  pointwise [latent, k0_pay4, k0_pay1]
  simp only [xB_apply B, B.wdkv]
  rfl

/-- The columns of a device's group start where its accesses do. -/
theorem upK_apply (e : Fin 64) (n : Fin 256) : upK I c (ix3 0 e n) = W.wuk (half c e) (gcol (grp c) n) := by
  have p : (ubox c).emb (ix2 e n) = ix2 e (gcol (grp c) n) := box_place _ _ e n _ _
    (by rw [k0_off1_eq]; exact Nat.zero_add _)
    (by rw [k0_off1_eq]; show 512 * (c.val / 2 % 2) + 256 * (c.val % 2) + n.val = 256 * (2 * (c.val / 2 % 2) + c.val % 2) + n.val; omega)
  pointwise [upK, k0_pay2]
  exact (congrArg (I c).wuk p).trans (B.wuk c _ _)
theorem upV_apply (e : Fin 64) (n : Fin 256) : upV I c (ix3 0 e n) = W.wuv (half c e) (gcol (grp c) n) := by
  have p : (ubox c).emb (ix2 e n) = ix2 e (gcol (grp c) n) := box_place _ _ e n _ _
    (by rw [k0_off1_eq]; exact Nat.zero_add _)
    (by rw [k0_off1_eq]; show 512 * (c.val / 2 % 2) + 256 * (c.val % 2) + n.val = 256 * (2 * (c.val / 2 % 2) + c.val % 2) + n.val; omega)
  pointwise [upV, k0_pay3]
  exact (congrArg (I c).wuv p).trans (B.wuv c _ _)
theorem wqT_apply (d : Fin 1024) (n : Fin 256) : wqT I c (ix2 d n) = W.wq d (gcol (grp c) n) := by
  have p : (qbox c).emb (ix2 d n) = ix2 d (gcol (grp c) n) := box_place _ _ d n _ _
    (by rw [k0_off2_eq]; exact Nat.zero_add _)
    (by rw [k0_off2_eq]; show 512 * (c.val / 2 % 2) + 256 * (c.val % 2) + n.val = 256 * (2 * (c.val / 2 % 2) + c.val % 2) + n.val; omega)
  exact (congrArg (I c).wq p).trans (B.wq c _ _)
theorem wqrT_apply (d : Fin 1024) (n : Fin 128) : wqrT I c (ix2 d n) = W.wqr d (grcol (grp c) n) := by
  have p : (rbox c).emb (ix2 d n) = ix2 d (grcol (grp c) n) := box_place _ _ d n _ _
    (by rw [k0_off3_eq]; exact Nat.zero_add _)
    (by rw [k0_off3_eq]; show 256 * (c.val / 2 % 2) + 128 * (c.val % 2) + n.val = 128 * (2 * (c.val / 2 % 2) + c.val % 2) + n.val; omega)
  exact (congrArg (I c).wqr p).trans (B.wqr c _ _)
theorem woT_apply (j : Fin 4) (k : Fin 256) (n : Fin 1024) : woT I c j (ix2 k n) = W.wo (gcol (grp (source c j)) k) n := by
  have p : (wbox c j).emb (ix2 k n) = ix2 (gcol (grp (source c j)) k) n := box_place _ _ k n _ _
    (congrArg (· + k.val) (congrFun (wbox_rows c j) 0))
    ((congrArg (· + n.val) (congrFun (wbox_rows c j) 1)).trans (Nat.zero_add _))
  exact (congrArg (I c).wo p).trans (B.wo c _ _)

/-! ## Queries, keys, values -/

theorem qB_apply (s n : Fin 256) : qB I c b (ix2 s n) = W.queries b s (gcol (grp c) n) := by
  pointwise [qB, k0_pay10, k0_pay9, k0_pay6]
  simp only [xB_apply B, wqT_apply B]
  rfl
theorem qrB_apply (s : Fin 256) (n : Fin 128) : qrB I c b (ix2 s n) = W.rqueries b s (grcol (grp c) n) := by
  pointwise [qrB, k0_pay11, k0_pay9, k0_pay7]
  simp only [xB_apply B, wqrT_apply B]
  rfl
theorem krB_apply (t : Fin 256) (j : Fin 32) : krB I c b (ix2 t j) = W.rkeys b t j := by
  pointwise [krB, k0_pay12, k0_pay9, k0_pay8]
  simp only [xB_apply B, B.wkr]
  rfl
/-- Keys: the own half of the latent axis and the received one. -/
theorem kB_apply (t n : Fin 256) : kB I c b (ix2 t n) = W.keys b t (gcol (grp c) n) := by
  pointwise [kB, k0_pay21, k0_pay13]
  simp only [latent_apply B, upK_apply B, grp_peer0]
  exact sum_halves c fun e => W.lat b t e * W.wuk e (gcol (grp c) n)
theorem vB_apply (t n : Fin 256) : vB I c b (ix2 t n) = W.values b t (gcol (grp c) n) := by
  pointwise [vB, k0_pay22, k0_pay14]
  simp only [latent_apply B, upV_apply B, grp_peer0]
  exact sum_halves c fun e => W.lat b t e * W.wuv e (gcol (grp c) n)

omit B in
theorem gcol_hcol (g h : Fin 4) (j : Fin 64) : gcol g (hcol h j) = col (ghead g h) j :=
  Fin.ext (show 256 * g.val + (64 * h.val + j.val) = (4 * g.val + h.val) * 64 + j.val by omega)
omit B in
theorem grcol_hrcol (g h : Fin 4) (j : Fin 32) : grcol g (hrcol h j) = rcol (ghead g h) j :=
  Fin.ext (show 128 * g.val + (32 * h.val + j.val) = (4 * g.val + h.val) * 32 + j.val by omega)

/-- A device's heads are the heads of its group. -/
theorem headB_apply (h : Fin 4) (s : Fin 256) (j : Fin 64) : headB I c b h (ix2 s j) = W.head b (ghead (grp c) h) s j := by
  simp only [headB, headAt_apply, qB_apply B, qrB_apply B, krB_apply B, kB_apply B, vB_apply B, gcol_hcol, grcol_hrcol]
  rfl

theorem headsB_apply (s n : Fin 256) : headsB I c b (ix2 s n) = W.heads b s (gcol (grp c) n) := by
  have e : inHead (ix2 s n) = ix2 s (placeOf (gcol (grp c) n)) := by
    refine funext fun a => Fin.ext ?_
    match a with
    | ⟨0, _⟩ => rfl
    | ⟨1, _⟩ => exact (show n.val % 64 = (256 * (grp c).val + n.val) % 64 by omega)
  have g : ghead (grp c) ⟨n.val / 64, by omega⟩ = headOf (gcol (grp c) n) :=
    Fin.ext (show 4 * (grp c).val + n.val / 64 = (256 * (grp c).val + n.val) / 64 by omega)
  show headB I c b ⟨n.val / 64, _⟩ (inHead (ix2 s n)) = W.head b (headOf (gcol (grp c) n)) s (placeOf (gcol (grp c) n))
  rw [e, headB_apply B, g]

/-! ## The output -/

/-- One group's part of the output. -/
theorem out_part (j : Fin 4) (s : Fin 256) (n : Fin 1024) :
    ∑ k, headsB I (source c j) b (ix2 s k) * woT I c j (ix2 k n)
      = ∑ k, W.heads b s (gcol (grp (source c j)) k) * W.wo (gcol (grp (source c j)) k) n := by
  simp only [headsB_apply B, woT_apply B]

theorem out3_apply (s : Fin 256) (n : Fin 1024) : out3 I c b (ix3 0 s n) = W.out b s n := by
  have h : out3 I c b (ix3 0 s n)
      = (∑ k, headsB I (source c 0) b (ix2 s k) * woT I c 0 (ix2 k n)) + (∑ k, headsB I (source c 1) b (ix2 s k) * woT I c 1 (ix2 k n))
        + (∑ k, headsB I (source c 2) b (ix2 s k) * woT I c 2 (ix2 k n)) + ∑ k, headsB I (source c 3) b (ix2 s k) * woT I c 3 (ix2 k n) := by
    pointwise [out3, out2, out1, out0, k0_pay43, k0_pay48, k0_pay45, oBox]
    rfl
  rw [h, out_part B, out_part B, out_part B, out_part B]
  refine (sum_sources c fun g => ∑ k, W.heads b s (gcol g k) * W.wo (gcol g k) n).trans ?_
  exact sum_groups fun k => W.heads b s k * W.wo k n

/-- A device's result is the whole result. -/
theorem outC_apply (s : Fin 256) (n : Fin 1024) : outC I c (ix3 b s n) = W.out b s n := by
  have e : inRow (ix3 b s n) = ix3 (0 : Fin 1) s n := funext fun a => match a with
    | ⟨0, _⟩ => rfl
    | ⟨1, _⟩ => rfl
    | ⟨2, _⟩ => rfl
  exact (congrArg (out3 I c b) e).trans (out3_apply B c b s n)

end Cert.Mla

end
-- ==== Proof.RefValue.lean ====
/-
# What the reference computes

The reference's composed term, step by step, at an index: latent attention over the whole arrays.
-/
module

public import proofs.«01_k».proof.Proof.Attention
public import proofs.«01_k».proof.Proof.Gen.ReferenceIdeal.Run

@[expose] public section

noncomputable section

namespace Cert.Mla.Ref

open Cert.ReferenceIdeal Cert.ReferenceIdeal.Gen
open Idealize.ShloMosaic
open Idealize.ShloMosaic.TcCoe

variable (x : FVec Ideal S2x256x1024 .f32) (wdkv : FVec Ideal S1024x128 .f32) (wuk wuv : FVec Ideal S128x1024 .f32)
  (wq : FVec Ideal S1024x1024 .f32) (wqr : FVec Ideal S1024x512 .f32) (wkr : FVec Ideal S1024x32 .f32) (wo : FVec Ideal S1024x1024 .f32)

/-- The reference's arguments as whole arrays. -/
def whole : Whole where
  x b s d := x (ix3 b s d)
  wdkv d e := wdkv (ix2 d e)
  wuk e n := wuk (ix2 e n)
  wuv e n := wuv (ix2 e n)
  wq d n := wq (ix2 d n)
  wqr d n := wqr (ix2 d n)
  wkr d n := wkr (ix2 d n)
  wo k n := wo (ix2 k n)

/-! ## The reference's steps -/

def latT : FVec Ideal S2x256x128 .f32 := Host.dotGeneral dot_S2x256x1024_S1024x128_S2x256x128_2_0_01_1_n_n none x wdkv
def upT (c : FVec Ideal S2x256x128 .f32) (w : FVec Ideal S128x1024 .f32) : FVec Ideal S2x256x16x64 .f32 :=
  shapeCast _ (Host.dotGeneral dot_S2x256x128_S128x1024_S2x256x1024_2_0_01_1_n_n none c w) shapeCasts_S2x256x1024_S2x256x16x64
def quT : FVec Ideal S2x256x16x64 .f32 :=
  shapeCast _ (Host.dotGeneral dot_S2x256x1024_S1024x1024_S2x256x1024_2_0_01_1_n_n none x wq) shapeCasts_S2x256x1024_S2x256x16x64
def rquT : FVec Ideal S2x256x16x32 .f32 :=
  shapeCast _ (Host.dotGeneral dot_S2x256x1024_S1024x512_S2x256x512_2_0_01_1_n_n none x wqr) shapeCasts_S2x256x512_S2x256x16x32
def rkeT : FVec Ideal S2x256x16x32 .f32 :=
  broadcastInDim S2x256x16x32 ![0, 1, 2, 3] bcast_S2x256x1x32_S2x256x16x32_0_1_2_3
    (shapeCast _ (Host.dotGeneral dot_S2x256x1024_S1024x32_S2x256x32_2_0_01_1_n_n none x wkr) shapeCasts_S2x256x32_S2x256x1x32)
def scT (q k : FVec Ideal S2x256x16x64 .f32) (qr kr : FVec Ideal S2x256x16x32 .f32) : FVec Ideal S2x16x256x256 .f32 :=
  mulf (addf (Host.dotGeneral dot_S2x256x16x64_S2x256x16x64_S2x16x256x256_3_3_1_1_02_02 none q k)
      (Host.dotGeneral dot_S2x256x16x32_S2x256x16x32_S2x16x256x256_3_3_1_1_02_02 none qr kr))
    (broadcastInDim S2x16x256x256 ![] bcast_S_S2x16x256x256 (constant S_ .f32 0x3DD105EC#32))
def exT (s : FVec Ideal S2x16x256x256 .f32) : FVec Ideal S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2
      (Host.reduce FloatOps.maximumf s (constant S_ .f32 0xFF800000#32) reducesTo_S2x16x256x256_S2x16x256_d3 h_S_))))
def prT (e : FVec Ideal S2x16x256x256 .f32) : FVec Ideal S2x16x256x256 .f32 :=
  Host.divf e (broadcastInDim S2x16x256x256 ![0, 1, 2, 3] bcast_S2x16x256x1_S2x16x256x256_0_1_2_3
    (broadcastInDim S2x16x256x1 ![0, 1, 2] bcast_S2x16x256_S2x16x256x1_0_1_2
      (Host.reduceAdd e (constant S_ .f32 0x00000000#32) reducesTo_S2x16x256x256_S2x16x256_d3 h_S_)))
def hdT (v : FVec Ideal S2x256x16x64 .f32) (p : FVec Ideal S2x16x256x256 .f32) : FVec Ideal S2x256x1024 .f32 :=
  shapeCast _ (transpose S2x256x16x64 [0, 3, 1, 2] (Host.dotGeneral dot_S2x256x16x64_S2x16x256x256_S2x16x64x256_1_3_3_2_02_01 none v p)
    transposes_S2x16x64x256_S2x256x16x64_0_3_1_2) shapeCasts_S2x256x16x64_S2x256x1024
def ouT (o : FVec Ideal S2x256x1024 .f32) : FVec Ideal S2x256x1024 .f32 :=
  Host.dotGeneral dot_S2x256x1024_S1024x1024_S2x256x1024_2_0_01_1_n_n none o wo

/-- The steps composed. -/
def outT : FVec Ideal S2x256x1024 .f32 :=
  ouT wo (hdT (upT (latT x wdkv) wuv) (prT (exT (scT (quT x wq) (upT (latT x wdkv) wuk) (rquT x wqr) (rkeT x wkr)))))

/-- The reference's result is its steps composed. -/
theorem res_eq (m : (ℓ : Loc nD τ sig) → Buf (Elt Ideal) ℓ) (c : Dev nD) :
    Value.res_main_v29 m c = outT (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := rfl

/-! ## The steps at an index -/

theorem latT_apply (b : Fin 2) (s : Fin 256) (e : Fin 128) : latT x wdkv (ix3 b s e) = ∑ d, x (ix3 b s d) * wdkv (ix2 d e) := by
  pointwise [latT]
theorem upT_apply (c : FVec Ideal S2x256x128 .f32) (w : FVec Ideal S128x1024 .f32) (b : Fin 2) (s : Fin 256) (h : Fin 16) (j : Fin 64) :
    upT c w (ix4 b s h j) = ∑ e, c (ix3 b s e) * w (ix2 e (col h j)) := by
  pointwise [upT, col]
theorem quT_apply (b : Fin 2) (s : Fin 256) (h : Fin 16) (j : Fin 64) :
    quT x wq (ix4 b s h j) = ∑ d, x (ix3 b s d) * wq (ix2 d (col h j)) := by
  pointwise [quT, col]
theorem rquT_apply (b : Fin 2) (s : Fin 256) (h : Fin 16) (j : Fin 32) :
    rquT x wqr (ix4 b s h j) = ∑ d, x (ix3 b s d) * wqr (ix2 d (rcol h j)) := by
  pointwise [rquT, rcol]
theorem rkeT_apply (b : Fin 2) (s : Fin 256) (h : Fin 16) (j : Fin 32) :
    rkeT x wkr (ix4 b s h j) = ∑ d, x (ix3 b s d) * wkr (ix2 d j) := by
  pointwise [rkeT]
theorem scT_apply (q k : FVec Ideal S2x256x16x64 .f32) (qr kr : FVec Ideal S2x256x16x32 .f32) (b : Fin 2) (h : Fin 16) (s t : Fin 256) :
    scT q k qr kr (ix4 b h s t)
      = scored (fun j => q (ix4 b s h j)) (fun j => k (ix4 b t h j)) (fun j => qr (ix4 b s h j)) (fun j => kr (ix4 b t h j)) := by
  pointwise [scT, scored]
theorem prT_apply (s : FVec Ideal S2x16x256x256 .f32) (b : Fin 2) (h : Fin 16) (i t : Fin 256) :
    prT (exT s) (ix4 b h i t) = soft (fun u => s (ix4 b h i u)) t := by
  pointwise [prT, exT, soft]
theorem hdT_apply (v : FVec Ideal S2x256x16x64 .f32) (p : FVec Ideal S2x16x256x256 .f32) (b : Fin 2) (s : Fin 256) (n : Fin 1024) :
    hdT v p (ix3 b s n) = ∑ t, p (ix4 b (headOf n) s t) * v (ix4 b t (headOf n) (placeOf n)) := by
  pointwise [hdT, headOf, placeOf]
  exact Finset.sum_congr rfl fun t _ => mul_comm _ _
theorem ouT_apply (o : FVec Ideal S2x256x1024 .f32) (b : Fin 2) (s : Fin 256) (n : Fin 1024) :
    ouT wo o (ix3 b s n) = ∑ k, o (ix3 b s k) * wo (ix2 k n) := by
  pointwise [ouT]

/-- What the reference computes is latent attention over its arguments. -/
theorem outT_apply (b : Fin 2) (s : Fin 256) (n : Fin 1024) :
    outT x wdkv wuk wuv wq wqr wkr wo (ix3 b s n) = (whole x wdkv wuk wuv wq wqr wkr wo).out b s n := by
  simp only [outT, ouT_apply, hdT_apply, prT_apply, scT_apply, quT_apply, rquT_apply, rkeT_apply, upT_apply, latT_apply]
  rfl

end Cert.Mla.Ref

end
-- ==== Proof.Equation.lean ====
/-
# Every device's result is the reference's

The devices' arguments are cut out of the reference's as the mesh says: the latent axis in two along the mesh's first
axis, everything else whole.
-/
module

public import proofs.«01_k».proof.Proof.KernelValue
public import proofs.«01_k».proof.Proof.RefValue
public import Idealize.ShloMosaic.Lib.Layout

@[expose] public section

noncomputable section

namespace Cert.Mla

open Cert.KernelIdeal
open Idealize.ShloMosaic

/-- The block of a device along a dimension cut along the mesh's first axis. -/
theorem first_axis : ∀ c : Dev nD, Layout.meshLin [2, 2, 2] c.val [0] = c.val / 4 := by decide

/-- A block of columns, of rows, at a place. -/
theorem cut_cols (v : (⟨2, ![1024, 128]⟩ : Shape).Idx → R) (c : Dev nD) (d : Fin 1024) (e : Fin 64) :
    Layout.blockN ⟨2, ![1024, 64]⟩ ⟨2, ![1024, 128]⟩ (Layout.meshBlock [2, 2, 2] ![[], [0]] c) v (by decide) (ix2 d e) = v (ix2 d (half c e)) := by
  rw [Layout.blockN_apply]
  refine congrArg v (funext fun a => Fin.ext ?_)
  match a with
  | ⟨0, _⟩ => exact (show 0 * 1024 + d.val = d.val by omega)
  | ⟨1, _⟩ => exact (congrArg (· * 64 + e.val) (first_axis c)).trans (show c.val / 4 * 64 + e.val = 64 * (c.val / 4) + e.val by omega)
theorem cut_rows (v : (⟨2, ![128, 1024]⟩ : Shape).Idx → R) (c : Dev nD) (e : Fin 64) (n : Fin 1024) :
    Layout.blockN ⟨2, ![64, 1024]⟩ ⟨2, ![128, 1024]⟩ (Layout.meshBlock [2, 2, 2] ![[0], []] c) v (by decide) (ix2 e n) = v (ix2 (half c e) n) := by
  rw [Layout.blockN_apply]
  refine congrArg v (funext fun a => Fin.ext ?_)
  match a with
  | ⟨0, _⟩ => exact (congrArg (· * 64 + e.val) (first_axis c)).trans (show c.val / 4 * 64 + e.val = 64 * (c.val / 4) + e.val by omega)
  | ⟨1, _⟩ => exact (show 0 * 1024 + n.val = n.val by omega)

variable (x : FVec Ideal S2x256x1024 .f32) (wdkv : FVec Ideal ⟨2, ![1024, 128]⟩ .f32) (wuk wuv : FVec Ideal ⟨2, ![128, 1024]⟩ .f32)
  (wq : FVec Ideal S1024x1024 .f32) (wqr : FVec Ideal S1024x512 .f32) (wkr : FVec Ideal S1024x32 .f32) (wo : FVec Ideal S1024x1024 .f32)

/-- Whatever the whole arrays hold: where every device's arguments are cut out of them, its result is the reference's. -/
theorem result_eq (I : Dev nD → Args Ideal)
    (h : ∀ c, (I c).x = x
      ∧ (I c).wdkv = Layout.blockN ⟨2, ![1024, 64]⟩ ⟨2, ![1024, 128]⟩ (Layout.meshBlock [2, 2, 2] ![[], [0]] c) wdkv
      ∧ (I c).wuk = Layout.blockN ⟨2, ![64, 1024]⟩ ⟨2, ![128, 1024]⟩ (Layout.meshBlock [2, 2, 2] ![[0], []] c) wuk
      ∧ (I c).wuv = Layout.blockN ⟨2, ![64, 1024]⟩ ⟨2, ![128, 1024]⟩ (Layout.meshBlock [2, 2, 2] ![[0], []] c) wuv
      ∧ (I c).wq = wq ∧ (I c).wqr = wqr ∧ (I c).wkr = wkr ∧ (I c).wo = wo) (c : Dev nD) :
    outC I c = Ref.outT x wdkv wuk wuv wq wqr wkr wo := by
  have B : Blocks (Ref.whole x wdkv wuk wuv wq wqr wkr wo) I :=
    { x := fun c _ _ _ => congrFun (h c).1 _
      wdkv := fun c d e => (congrFun (h c).2.1 _).trans (cut_cols wdkv c d e)
      wuk := fun c e n => (congrFun (h c).2.2.1 _).trans (cut_rows wuk c e n)
      wuv := fun c e n => (congrFun (h c).2.2.2.1 _).trans (cut_rows wuv c e n)
      wq := fun c _ _ => congrFun (h c).2.2.2.2.1 _
      wqr := fun c _ _ => congrFun (h c).2.2.2.2.2.1 _
      wkr := fun c _ _ => congrFun (h c).2.2.2.2.2.2.1 _
      wo := fun c _ _ => congrFun (h c).2.2.2.2.2.2.2 _ }
  funext i
  obtain ⟨b, s, n, rfl⟩ : ∃ (b : Fin 2) (s : Fin 256) (n : Fin 1024), i = ix3 b s n :=
    ⟨i 0, i 1, i 2, funext fun a => match a with | ⟨0, _⟩ => rfl | ⟨1, _⟩ => rfl | ⟨2, _⟩ => rfl⟩
  exact (outC_apply B c b s n).trans (Ref.outT_apply x wdkv wuk wuv wq wqr wkr wo b s n).symm

end Cert.Mla

end
-- ==== Proof.lean ====
/-
# The claims

Latent attention on a 2x2x2 mesh. The three frames read the two runs (`run_main` of the eight devices, whatever the float
values, and the reference's) at the arguments and the counters; the idealized program is the program's own text; the value
claim is `result_eq` between the two runs' results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The program as printed: its run at bit-exact floats, which is the same text's run whatever the float values, read at the
    arguments and the counters. -/
theorem frame_kernel : Cert.quiescent_Kernel := fun m ρ _ =>
  (θ_run Cert.KernelIdeal.defs _ _).mono (fun _ h => ⟨fun c => (h.1 c).2, h.2⟩) (Cert.Mla.run_main (F := Bits) m ρ)

/-- The idealized program: the same run over extended reals. -/
theorem frame_ideal : Cert.quiescent_KernelIdeal := fun m ρ _ =>
  (θ_run Cert.KernelIdeal.defs _ _).mono (fun _ h => ⟨fun c => (h.1 c).2, h.2⟩) (Cert.Mla.run_main (F := Ideal) m ρ)

/-- The reference: a sequence of host operations, which has no semaphores. -/
theorem frame_reference : Cert.quiescent_ReferenceIdeal := fun m ρ _ =>
  (θ_run Cert.ReferenceIdeal.defs _ _).mono (fun _ h => ⟨fun c => (h c).2, funext fun g => nomatch g.2⟩) (Cert.ReferenceIdeal.Value.run (F := Ideal) m ρ)

/-- Where the devices' arguments are cut out of the reference's as the claim says, every device's result is the reference's term
    of its arguments; and each program's run ends with its own. -/
theorem algebraic : Cert.algebraic_KernelIdeal_ReferenceIdeal := by
  intro m ρ m' ρ' _ hargs
  exact ⟨Cert.ReferenceIdeal.Value.res_out0 m' 0,
    (θ_run Cert.KernelIdeal.defs _ _).mono (fun _ h c => ⟨((h.1 c).1).trans
      ((Cert.Mla.result_eq _ _ _ _ _ _ _ _ (Cert.Mla.argsOf m) hargs c).trans (Cert.Mla.Ref.res_eq m' 0).symm), (h.1 c).2⟩)
      (Cert.Mla.run_main (F := Ideal) m ρ),
    (θ_run Cert.ReferenceIdeal.defs _ _).mono (fun _ h => h 0) (Cert.ReferenceIdeal.Value.run (F := Ideal) m' ρ')⟩

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
